-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_domain [hPre_domain : Cert.Pre_domain.Facts] (m : (ℓ : Loc Cert.KernelIdeal.nD Cert.KernelIdeal.τ Cert.KernelIdeal.sig) → Buf (Elt Ideal) ℓ) : Prop :=
  ∀ c : Dev Cert.KernelIdeal.nD,
    (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_domain [hPre_domain : Cert.Pre_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_domain [hKernelIdeal : Cert.KernelIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_domain [hReferenceIdeal : Cert.ReferenceIdeal.Facts] [hPre_domain : Cert.Pre_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "h" .f32 0x3A802008#32 ((1 / 1023 : ℝ) : EReal)

def algebraic_KernelIdeal_ReferenceIdeal_pre_domain [hKernelIdeal : Cert.KernelIdeal.Facts] [hReferenceIdeal : Cert.ReferenceIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_domain : Cert.Pre_domain.Facts),
    quiescent_Kernel (hKernel := hKernel)
    ∧ quiescent_KernelIdeal (hKernelIdeal := hKernelIdeal)
    ∧ quiescent_KernelIdeal_pre_domain (hKernelIdeal := hKernelIdeal) (hPre_domain := hPre_domain)
    ∧ quiescent_ReferenceIdeal (hReferenceIdeal := hReferenceIdeal)
    ∧ quiescent_ReferenceIdeal_pre_domain (hReferenceIdeal := hReferenceIdeal) (hPre_domain := hPre_domain)
    ∧ preserves_Kernel_KernelIdeal
    ∧ algebraic_KernelIdeal_ReferenceIdeal_pre_domain (hKernelIdeal := hKernelIdeal) (hReferenceIdeal := hReferenceIdeal) (hPre_domain := hPre_domain)
-- ==== Pre_domain.lean ====
abbrev S16384x1 : Shape := ⟨2, ![16384, 1]⟩
abbrev S16384x512 : Shape := ⟨2, ![16384, 512]⟩
abbrev S16384 : Shape := ⟨1, ![16384]⟩
abbrev S512x1024 : Shape := ⟨2, ![512, 1024]⟩
abbrev S1024 : Shape := ⟨1, ![1024]⟩
abbrev S_ : Shape := ⟨0, ![]⟩

class Facts : Prop where
  bcast_S_S16384x1 : S_.BroadcastsInDim S16384x1 (![] : Fin 0 → Fin S16384x1.rank)
  bcast_S_S16384x512 : S_.BroadcastsInDim S16384x512 (![] : Fin 0 → Fin S16384x512.rank)
  bcast_S_S512x1024 : S_.BroadcastsInDim S512x1024 (![] : Fin 0 → Fin S512x1024.rank)
  bcast_S_S16384 : S_.BroadcastsInDim S16384 (![] : Fin 0 → Fin S16384.rank)
  bcast_S_S1024 : S_.BroadcastsInDim S1024 (![] : Fin 0 → Fin S1024.rank)

variable [Facts]

def fn {F : FTy → Type} [FloatOps F] (main_arg0 : FVec F S16384x1 .f32) (main_arg1 : FVec F S16384x512 .f32) (main_arg2 : FVec F S16384 .f32) (main_arg3 : FVec F S512x1024 .f32) (main_arg4 : FVec F S1024 .f32) : IVec S16384x1 1 × IVec S16384x512 1 × IVec S512x1024 1 × IVec S16384 1 × IVec S1024 1 :=
  let main_cst : FVec F S_ .f32 := constant S_ .f32 0x00000000#32
  let main_v0 : FVec F S16384x1 .f32 := broadcastInDim S16384x1 ![] bcast_S_S16384x1 main_cst
  let main_v1 : IVec S16384x1 1 := cmpf .oge main_arg0 main_v0
  let main_cst_0 : FVec F S_ .f32 := constant S_ .f32 0x3F800000#32
  let main_v2 : FVec F S16384x1 .f32 := broadcastInDim S16384x1 ![] bcast_S_S16384x1 main_cst_0
  let main_v3 : IVec S16384x1 1 := cmpf .olt main_arg0 main_v2
  let main_v4 : IVec S16384x1 1 := andi main_v1 main_v3
  let main_v5 : FVec F S16384x512 .f32 := Host.absf main_arg1
  let main_cst_1 : FVec F S_ .f32 := constant S_ .f32 0x7F800000#32
  let main_v6 : FVec F S16384x512 .f32 := broadcastInDim S16384x512 ![] bcast_S_S16384x512 main_cst_1
  let main_v7 : IVec S16384x512 1 := cmpf .olt main_v5 main_v6
  let main_v8 : FVec F S512x1024 .f32 := Host.absf main_arg3
  let main_cst_2 : FVec F S_ .f32 := constant S_ .f32 0x7F800000#32
  let main_v9 : FVec F S512x1024 .f32 := broadcastInDim S512x1024 ![] bcast_S_S512x1024 main_cst_2
  let main_v10 : IVec S512x1024 1 := cmpf .olt main_v8 main_v9
  let main_cst_3 : FVec F S_ .f32 := constant S_ .f32 0x00000000#32
  let main_v11 : FVec F S16384 .f32 := broadcastInDim S16384 ![] bcast_S_S16384 main_cst_3
  let main_v12 : IVec S16384 1 := cmpf .oeq main_arg2 main_v11
  let main_cst_4 : FVec F S_ .f32 := constant S_ .f32 0x00000000#32
  let main_v13 : FVec F S1024 .f32 := broadcastInDim S1024 ![] bcast_S_S1024 main_cst_4
  let main_v14 : IVec S1024 1 := cmpf .oeq main_arg4 main_v13
  (main_v4, main_v7, main_v10, main_v12, main_v14)
-- ==== Kernel.lean ====
abbrev S16384x1 : Shape := ⟨2, ![16384, 1]⟩
abbrev S16384x512 : Shape := ⟨2, ![16384, 512]⟩
abbrev S16384 : Shape := ⟨1, ![16384]⟩
abbrev S512x1024 : Shape := ⟨2, ![512, 1024]⟩
abbrev S1024 : Shape := ⟨1, ![1024]⟩
abbrev S_ : Shape := ⟨0, ![]⟩
abbrev S1023 : Shape := ⟨1, ![1023]⟩
abbrev S1 : Shape := ⟨1, ![1]⟩
abbrev S1x1024 : Shape := ⟨2, ![1, 1024]⟩
abbrev S1x16384 : Shape := ⟨2, ![1, 16384]⟩
abbrev S1024x1 : Shape := ⟨2, ![1024, 1]⟩
abbrev S1024x512 : Shape := ⟨2, ![1024, 512]⟩
abbrev S1024x1024 : Shape := ⟨2, ![1024, 1024]⟩

abbrev nBuf : Space → Nat
  | .hbm => 38
  | .vmem => 11
  | .smem => 0
  | _ => 0

abbrev bufTy : (tb : Table) → Fin (tcTables nBuf tb) → BufTy
  | .hbm, ⟨0, _⟩ => ⟨S16384x1, .f32⟩
  | .hbm, ⟨1, _⟩ => ⟨S16384x512, .f32⟩
  | .hbm, ⟨2, _⟩ => ⟨S16384, .f32⟩
  | .hbm, ⟨3, _⟩ => ⟨S512x1024, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1023, .f32⟩
  | .hbm, ⟨13, _⟩ => ⟨S_, .f32⟩
  | .hbm, ⟨14, _⟩ => ⟨S1023, .f32⟩
  | .hbm, ⟨15, _⟩ => ⟨S1023, .f32⟩
  | .hbm, ⟨16, _⟩ => ⟨S1, .f32⟩
  | .hbm, ⟨17, _⟩ => ⟨S_, .f32⟩
  | .hbm, ⟨18, _⟩ => ⟨S1023, .f32⟩
  | .hbm, ⟨19, _⟩ => ⟨S1023, .f32⟩
  | .hbm, ⟨20, _⟩ => ⟨S1023, .f32⟩
  | .hbm, ⟨21, _⟩ => ⟨S1023, .f32⟩
  | .hbm, ⟨22, _⟩ => ⟨S1, .f32⟩
  | .hbm, ⟨23, _⟩ => ⟨S1023, .f32⟩
  | .hbm, ⟨24, _⟩ => ⟨S1023, .f32⟩
  | .hbm, ⟨25, _⟩ => ⟨S1023, .f32⟩
  | .hbm, ⟨26, _⟩ => ⟨S1, .f32⟩
  | .hbm, ⟨27, _⟩ => ⟨S1024, .f32⟩
  | .hbm, ⟨28, _⟩ => ⟨S_, .f32⟩
  | .hbm, ⟨29, _⟩ => ⟨S1, .f32⟩
  | .hbm, ⟨30, _⟩ => ⟨S1023, .f32⟩
  | .hbm, ⟨31, _⟩ => ⟨S1024, .f32⟩
  | .hbm, ⟨32, _⟩ => ⟨S1x1024, .f32⟩
  | .hbm, ⟨33, _⟩ => ⟨S1x1024, .f32⟩
  | .hbm, ⟨34, _⟩ => ⟨S16384x1, .f32⟩
  | .hbm, ⟨35, _⟩ => ⟨S1x16384, .f32⟩
  | .hbm, ⟨36, _⟩ => ⟨S16384x512, .f32⟩
  | .hbm, ⟨37, _⟩ => ⟨S16384, .f32⟩
  | .local _ .vmem, ⟨0, _⟩ => ⟨S1024x1, .f32⟩
  | .local _ .vmem, ⟨1, _⟩ => ⟨S1024x1, .f32⟩
  | .local _ .vmem, ⟨2, _⟩ => ⟨S1024x512, .f32⟩
  | .local _ .vmem, ⟨3, _⟩ => ⟨S1024x512, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x1, .f32⟩
  | .local _ .vmem, ⟨8, _⟩ => ⟨S1024x1, .f32⟩
  | .local _ .vmem, ⟨9, _⟩ => ⟨S1x1024, .f32⟩
  | .local _ .vmem, ⟨10, _⟩ => ⟨S1x1024, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_cst_0 : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_cst : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_cst_0 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_cst_1 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_call0_v12 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_v0 : Ref sig .tc := ⟨.hbm, 27, rfl⟩
abbrev main_call0_cst_1 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_v0_0 : Ref sig .tc := ⟨.hbm, 34, rfl⟩
abbrev main_call0_v6_1 : Ref sig .tc := ⟨.hbm, 35, rfl⟩
abbrev main_v0_1 : Ref sig .tc := ⟨.hbm, 36, rfl⟩
abbrev main_v0_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let c0_i32 : BitVec 32 := 0#32
  ![v0.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "h" => some ((1 / 1023 : ℝ) : EReal)
  | _ => none
-- ==== ReferenceIdeal.lean ====
abbrev S16384x1 : Shape := ⟨2, ![16384, 1]⟩
abbrev S16384x512 : Shape := ⟨2, ![16384, 512]⟩
abbrev S16384 : Shape := ⟨1, ![16384]⟩
abbrev S512x1024 : Shape := ⟨2, ![512, 1024]⟩
abbrev S1024 : Shape := ⟨1, ![1024]⟩
abbrev S_ : Shape := ⟨0, ![]⟩
abbrev S1023 : Shape := ⟨1, ![1023]⟩
abbrev S1 : Shape := ⟨1, ![1]⟩
abbrev S16384x1024 : Shape := ⟨2, ![16384, 1024]⟩
abbrev S1x1024 : Shape := ⟨2, ![1, 1024]⟩
abbrev S16384x1x1 : Shape := ⟨3, ![16384, 1, 1]⟩
abbrev S1x1x1 : Shape := ⟨3, ![1, 1, 1]⟩

abbrev nBuf : Space → Nat
  | .hbm => 151
  | .vmem => 0
  | .smem => 0
  | _ => 0

abbrev hbmTy0_0 (i : Nat) : BufTy := match i % 128 with
  | 0 => ⟨S16384x1, .f32⟩
  | 1 => ⟨S16384x512, .f32⟩
  | 2 => ⟨S16384, .f32⟩
  | 3 => ⟨S512x1024, .f32⟩
  | 4 => ⟨S1024, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1023, .f32⟩
  | 13 => ⟨S_, .f32⟩
  | 14 => ⟨S1023, .f32⟩
  | 15 => ⟨S1023, .f32⟩
  | 16 => ⟨S1, .f32⟩
  | 17 => ⟨S_, .f32⟩
  | 18 => ⟨S1023, .f32⟩
  | 19 => ⟨S1023, .f32⟩
  | 20 => ⟨S1023, .f32⟩
  | 21 => ⟨S1023, .f32⟩
  | 22 => ⟨S1, .f32⟩
  | 23 => ⟨S1023, .f32⟩
  | 24 => ⟨S1023, .f32⟩
  | 25 => ⟨S1023, .f32⟩
  | 26 => ⟨S1, .f32⟩
  | 27 => ⟨S1024, .f32⟩
  | 28 => ⟨S16384x1024, .f32⟩
  | 29 => ⟨S1x1024, .f32⟩
  | 30 => ⟨S16384x1024, .f32⟩
  | 31 => ⟨S16384x1024, .f32⟩
  | 32 => ⟨S_, .f32⟩
  | 33 => ⟨S16384, .f32⟩
  | 34 => ⟨S_, .f32⟩
  | 35 => ⟨S16384, .f32⟩
  | 36 => ⟨S16384, .f32⟩
  | 37 => ⟨S16384x1, .f32⟩
  | 38 => ⟨S16384x1024, .f32⟩
  | 39 => ⟨S16384x1024, .f32⟩
  | 40 => ⟨S16384x1024, .f32⟩
  | 41 => ⟨S_, .f32⟩
  | 42 => ⟨S16384, .f32⟩
  | 43 => ⟨S16384x1, .f32⟩
  | 44 => ⟨S16384x1024, .f32⟩
  | 45 => ⟨S16384x1024, .f32⟩
  | 46 => ⟨S_, .f32⟩
  | 47 => ⟨S_, .f32⟩
  | 48 => ⟨S16384x1024, .f32⟩
  | 49 => ⟨S1x1024, .f32⟩
  | 50 => ⟨S16384x1024, .f32⟩
  | 51 => ⟨S16384x1024, .f32⟩
  | 52 => ⟨S16384x1024, .i1⟩
  | 53 => ⟨S16384x1024, .i32⟩
  | 54 => ⟨S_, .i32⟩
  | 55 => ⟨S16384, .i32⟩
  | 56 => ⟨S_, .i32⟩
  | 57 => ⟨S16384, .i32⟩
  | 58 => ⟨S16384, .i32⟩
  | 59 => ⟨S_, .i32⟩
  | 60 => ⟨S16384, .i32⟩
  | 61 => ⟨S16384, .i1⟩
  | 62 => ⟨S_, .i32⟩
  | 63 => ⟨S16384, .i32⟩
  | 64 => ⟨S16384, .i32⟩
  | 65 => ⟨S16384, .i32⟩
  | 66 => ⟨S16384x1, .i32⟩
  | 67 => ⟨S16384, .f32⟩
  | 68 => ⟨S16384x1, .f32⟩
  | 69 => ⟨S_, .i32⟩
  | 70 => ⟨S16384, .i32⟩
  | 71 => ⟨S16384, .i32⟩
  | 72 => ⟨S_, .i32⟩
  | 73 => ⟨S16384, .i32⟩
  | 74 => ⟨S16384, .i1⟩
  | 75 => ⟨S_, .i32⟩
  | 76 => ⟨S16384, .i32⟩
  | 77 => ⟨S16384, .i32⟩
  | 78 => ⟨S16384, .i32⟩
  | 79 => ⟨S16384x1, .i32⟩
  | 80 => ⟨S16384, .f32⟩
  | 81 => ⟨S16384x1, .f32⟩
  | 82 => ⟨S16384x1, .i32⟩
  | 83 => ⟨S_, .i32⟩
  | 84 => ⟨S16384x1, .i32⟩
  | 85 => ⟨S16384x1, .i1⟩
  | 86 => ⟨S_, .i32⟩
  | 87 => ⟨S16384x1, .i32⟩
  | 88 => ⟨S16384x1, .i32⟩
  | 89 => ⟨S16384x1, .i32⟩
  | 90 => ⟨S16384x1x1, .i32⟩
  | 91 => ⟨S1, .i32⟩
  | 92 => ⟨S_, .i32⟩
  | 93 => ⟨S16384x1x1, .i32⟩
  | 94 => ⟨S16384x1x1, .i1⟩
  | 95 => ⟨S1x1x1, .i32⟩
  | 96 => ⟨S16384x1x1, .i32⟩
  | 97 => ⟨S16384x1x1, .i1⟩
  | 98 => ⟨S16384x1x1, .i1⟩
  | 99 => ⟨S_, .i1⟩
  | 100 => ⟨S16384x1, .i1⟩
  | 101 => ⟨S16384x1, .f32⟩
  | 102 => ⟨S_, .f32⟩
  | 103 => ⟨S16384x1, .f32⟩
  | 104 => ⟨S16384x1, .f32⟩
  | 105 => ⟨S_, .i32⟩
  | 106 => ⟨S16384, .i32⟩
  | 107 => ⟨S16384, .i32⟩
  | 108 => ⟨S16384x1, .i32⟩
  | 109 => ⟨S_, .i32⟩
  | 110 => ⟨S16384x1, .i32⟩
  | 111 => ⟨S16384x1, .i1⟩
  | 112 => ⟨S_, .i32⟩
  | 113 => ⟨S16384x1, .i32⟩
  | 114 => ⟨S16384x1, .i32⟩
  | 115 => ⟨S16384x1, .i32⟩
  | 116 => ⟨S16384x1x1, .i32⟩
  | 117 => ⟨S1, .i32⟩
  | 118 => ⟨S_, .i32⟩
  | 119 => ⟨S16384x1x1, .i32⟩
  | 120 => ⟨S16384x1x1, .i1⟩
  | 121 => ⟨S1x1x1, .i32⟩
  | 122 => ⟨S16384x1x1, .i32⟩
  | 123 => ⟨S16384x1x1, .i1⟩
  | 124 => ⟨S16384x1x1, .i1⟩
  | 125 => ⟨S_, .i1⟩
  | 126 => ⟨S16384x1, .i1⟩
  | 127 => ⟨S16384x1, .f32⟩
  | _ => ⟨S16384x1, .f32⟩

abbrev hbmTy0_1 (i : Nat) : BufTy := match i % 128 with
  | 0 => ⟨S_, .f32⟩
  | 1 => ⟨S16384x1, .f32⟩
  | 2 => ⟨S16384x1, .f32⟩
  | 3 => ⟨S16384x1, .f32⟩
  | 4 => ⟨S16384x1, .f32⟩
  | 5 => ⟨S16384x1, .f32⟩
  | 6 => ⟨S16384x1, .f32⟩
  | 7 => ⟨S16384x1, .f32⟩
  | 8 => ⟨S16384x1, .f32⟩
  | 9 => ⟨S_, .f32⟩
  | 10 => ⟨S16384x1, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S_, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | _ => ⟨S16384x1, .f32⟩

abbrev hbmTy (i : Nat) : BufTy := match i / 128 with
  | 0 => hbmTy0_0 i
  | 1 => hbmTy0_1 i
  | _ => ⟨S16384x1, .f32⟩

abbrev bufTy : (tb : Table) → Fin (tcTables nBuf tb) → BufTy
  | .hbm, ⟨i, _⟩ => hbmTy i
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_cst_2 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_3 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_call1_call0_cst : Ref sig .tc := ⟨.hbm, 46, rfl⟩
abbrev main_call1_call0_v0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c : Ref sig .tc := ⟨.hbm, 54, rfl⟩
abbrev main_v22 : Ref sig .tc := ⟨.hbm, 55, rfl⟩
abbrev main_c_4 : Ref sig .tc := ⟨.hbm, 56, rfl⟩
abbrev main_v23 : Ref sig .tc := ⟨.hbm, 57, rfl⟩
abbrev main_v24 : Ref sig .tc := ⟨.hbm, 58, rfl⟩
abbrev main_c_5 : Ref sig .tc := ⟨.hbm, 59, rfl⟩
abbrev main_v25 : Ref sig .tc := ⟨.hbm, 60, rfl⟩
abbrev main_v26 : Ref sig .tc := ⟨.hbm, 61, rfl⟩
abbrev main_c_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c_7 : Ref sig .tc := ⟨.hbm, 69, rfl⟩
abbrev main_v33 : Ref sig .tc := ⟨.hbm, 70, rfl⟩
abbrev main_v34 : Ref sig .tc := ⟨.hbm, 71, rfl⟩
abbrev main_c_8 : Ref sig .tc := ⟨.hbm, 72, rfl⟩
abbrev main_v35 : Ref sig .tc := ⟨.hbm, 73, rfl⟩
abbrev main_v36 : Ref sig .tc := ⟨.hbm, 74, rfl⟩
abbrev main_c_9 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_cst : Ref sig .tc := ⟨.hbm, 102, rfl⟩
abbrev main_call2_v14 : Ref sig .tc := ⟨.hbm, 103, rfl⟩
abbrev main_v44 : Ref sig .tc := ⟨.hbm, 104, rfl⟩
abbrev main_c_10 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_call3_c : Ref sig .tc := ⟨.hbm, 109, rfl⟩
abbrev main_call3_v0 : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_c_1 : Ref sig .tc := ⟨.hbm, 117, rfl⟩
abbrev main_call3_c_2 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_c_3 : Ref sig .tc := ⟨.hbm, 125, rfl⟩
abbrev main_call3_v12 : Ref sig .tc := ⟨.hbm, 126, rfl⟩
abbrev main_call3_v13 : Ref sig .tc := ⟨.hbm, 127, rfl⟩
abbrev main_call3_cst : Ref sig .tc := ⟨.hbm, 128, rfl⟩
abbrev main_call3_v14 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_cst_11 : Ref sig .tc := ⟨.hbm, 137, rfl⟩
abbrev main_v55 : Ref sig .tc := ⟨.hbm, 138, rfl⟩
abbrev main_v56 : Ref sig .tc := ⟨.hbm, 139, rfl⟩
abbrev main_cst_12 : Ref sig .tc := ⟨.hbm, 140, rfl⟩
abbrev main_v57 : Ref sig .tc := ⟨.hbm, 141, rfl⟩
abbrev main_v58 : Ref sig .tc := ⟨.hbm, 142, rfl⟩
abbrev main_cst_13 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩

abbrev nD : Nat := 1
abbrev τ : Topo := Topo.v7x

variable {F : FTy → Type} [FloatOps F]
-- ==== Proof.KernelIdealRun.lean ====
/-
  What one call of the kernel body does, and the run of the whole program: each output block is the body's result on the
  input blocks, the copied-out rows of the third result are the rows of `x`, the arguments are unchanged and every semaphore
  counter ends at zero.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffixV
public import Idealize.ShloMosaic.Lib.Pipeline.Value
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The result array that the body fills by its own copies. -/
abbrev xoM : Memref sig .tc .hbm S16384x512 .f32 := Memref.whole main_v0_1
/-- The rows of that array that one grid point writes. -/
abbrev xoRows (i : grid0.Coords) : Memref sig .tc .hbm S1024x512 .f32 :=
  xoM.slice (Rect.unit (s := S16384x512) (k0_off1 i) S1024x512.size (k0_off1_inb i)) (fun _ => rfl)

/-- The block of the first result that a point computes from its input blocks. -/
def zBlk (y : Vec F S1024x1 .f32) (x : Vec F S1024x512 .f32) (w : Vec F S512x1024 .f32) (b b' : Vec F S1x1024 .f32) : Vec F S1024x1 .f32 :=
  k0_pay1 y (k0_pay6 y) (k0_pay7 x w y b) (k0_pay8 x w y b b')
/-- The block of the second result. -/
def lBlk (y : Vec F S1024x1 .f32) (x : Vec F S1024x512 .f32) (w : Vec F S512x1024 .f32) (b b' : Vec F S1x1024 .f32) : Vec F S1x1024 .f32 :=
  k0_pay2 (k0_pay8 x w y b b')

set_option maxHeartbeats 4000000 in
set_option sl_exec.lendShare "H2" in
/-- One call of the kernel body, run on whole buffers. -/
theorem body_run (c : Dev nD) (i : grid0.Coords) (arg1 : Memref sig .tc .vmem S1024x1 .f32) (harg1 : arg1.IsWhole)
    (arg2 : Memref sig .tc .vmem S1024x512 .f32) (harg2 : arg2.IsWhole) (arg3 : Memref sig .tc .vmem S512x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1x1024 .f32) (harg7 : arg7.IsWhole)
    (y : Vec F S1024x1 .f32) (x : Vec F S1024x512 .f32) (w : Vec F S512x1024 .f32) (b b' : Vec F S1x1024 .f32)
    (xo : Buf (Elt F) (xoM.view.loc (c : Thread nD τ))) (W : Waits sig Unit) (K : PUnit → sProp 𝕄) :
    iprop(owns (c : Thread nD τ) arg1 fullShare y ∗ owns (c : Thread nD τ) arg2 fullShare x ∗ owns (c : Thread nD τ) arg3 fullShare w
        ∗ owns (c : Thread nD τ) arg4 fullShare b ∗ owns (c : Thread nD τ) arg5 fullShare b'
        ∗ (∃ d, owns (c : Thread nD τ) arg6 fullShare d) ∗ (∃ d, owns (c : Thread nD τ) arg7 fullShare d)
        ∗ owns (c : Thread nD τ) xoM fullShare xo
        ∗ semVal ((c : Thread nD τ), SemLoc.dma 11) 0
        ∗ owes (c : Thread nD τ) 0 W
        ∗ (iprop(owns (c : Thread nD τ) arg1 fullShare y ∗ owns (c : Thread nD τ) arg2 fullShare x ∗ owns (c : Thread nD τ) arg3 fullShare w
            ∗ owns (c : Thread nD τ) arg4 fullShare b ∗ owns (c : Thread nD τ) arg5 fullShare b'
            ∗ owns (c : Thread nD τ) arg6 fullShare (zBlk y x w b b') ∗ owns (c : Thread nD τ) arg7 fullShare (lBlk y x w b b')
            ∗ owns (c : Thread nD τ) xoM fullShare ((xoRows i).view.write (Elt F) xo x Finset.univ)
            ∗ semVal ((c : Thread nD τ), SemLoc.dma 11) 0
            ∗ (∃ W', owes (c : Thread nD τ) 0 W')) -∗ K ⟨⟩))
      ⊢ wp frame (wpE (defs₀ (F := F)) Variants.none c none) Set.univ
          (cc0__interp_kernel i arg1 harg1 arg2 harg2 arg3 harg3 arg4 harg4 arg5 harg5 arg6 harg6 arg7 harg7
            xoM (Memref.isWhole_whole _) cc0_scratch0) K := by
  simp only [cc0__interp_kernel_eq_skeleton]; unfold cc0__interp_kernel_skel
  simp only [k0_part1_eq_skeleton]; unfold k0_part1_skel
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%f8, %h8, H8⟩, Hq, HW, Hk⟩
  subst h1 h2 h3 h4 h5
  sl_exec
  sl_step
  iapply Hk
  simp only [Memref.view_whole, View.read_whole] at h8
  subst h8
  have e1 := View.readAt_full arg1.view f1 inb_S1024x1_S1024x1_0_0
  have e2 := View.readAt_full arg2.view f2 inb_S1024x512_S1024x512_0_0
  have e3 := View.readAt_full arg3.view f3 inb_S512x1024_S512x1024_0_0
  have e4 := View.readAt_full arg4.view f4 inb_S1x1024_S1x1024_0_0
  have e5 := View.readAt_full arg5.view f5 inb_S1x1024_S1x1024_0_0
  isplitl [H1]; · iexists f1; isplitr; swap; · iexact H1
                  ipureintro; rfl
  isplitl [H2]; · iexists f2; isplitr; swap; · iexact H2
                  ipureintro; rfl
  isplitl [H3]; · iexists f3; isplitr; swap; · iexact H3
                  ipureintro; rfl
  isplitl [H4]; · iexists f4; isplitr; swap; · iexact H4
                  ipureintro; rfl
  isplitl [H5]; · iexists f5; isplitr; swap; · iexact H5
                  ipureintro; rfl
  isplitl [H6]
  · iexists _; isplitr; swap; · iexact H6
    ipureintro
    refine (View.read_writes_full arg6.view f6 inb_S1024x1_S1024x1_0_0 _ []).trans ?_
    rw [← e1, ← e2, ← e3, ← e4, ← e5]; rfl
  isplitl [H7]
  · iexists _; isplitr; swap; · iexact H7
    ipureintro
    refine (View.read_writes_full arg7.view f7 inb_S1x1024_S1x1024_0_0 _ []).trans ?_
    rw [← e1, ← e2, ← e3, ← e4, ← e5]; rfl
  isplitl [H8]
  · iexists _; isplitr; swap; · iexact H8
    ipureintro
    exact View.read_whole _ _
  isplitl [Hq]; · iexact Hq
  iexists _; iexact HW

/-! ## The proof data -/

/-- The body's one DMA cell. -/
abbrev osem0 : Fin 1 → SemLoc sig := fun j => (![SemLoc.dma 11] : Fin 1 → SemLoc sig) j
/-- The kernel's own semaphore is apart from the pipeline's. -/
theorem ownSemFacts0 : Pipeline.OwnSemFacts spec0 osem0 := by decide
/-- The set of the kernel's own semaphores, written out. -/
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 11) 0 := by
  rw [Pipeline.ownSems0_eq_of_list c osem0 [0] (by decide) (by decide)]; rfl

/-- The array the body writes by its own copies. -/
def R0 : Finset (Ref sig .tc) := {main_v0_1}
/-- The buffer that the kernel copies into by itself is none of the pipeline's arrays. -/
theorem R0_sub : R0 ⊆ Pipeline.restRefs sig spec0 \ ∅ := by decide

/-- The third result after `k` grid points: the rows of `x` above row `1024 k`, the entry contents below. -/
def xoAt (c : Dev nD) (k : ℕ) : Buf (Elt F) ((c : Thread nD τ).loc main_v0_1) :=
  fun i => if (i (0 : Fin 2)).val < 1024 * k then (V m c main_arg1 : S16384x512.Idx → Elt F .f32) i else V m c main_v0_1 i

/-- The contents of the unstaged buffers after `k` points: only the third result changes. -/
def Gx (k : ℕ) (c : Dev nD) (b : Ref sig .tc) : Buf (Elt F) ((c.tc : Thread nD τ).loc b) :=
  Function.update (β := fun b : Ref sig .tc => Buf (Elt F) ((c.tc : Thread nD τ).loc b)) (V m c) main_v0_1 (xoAt m c k) b

/-- The copied array after `k` grid points. -/
theorem Gx_self (k : ℕ) (c : Dev nD) : Gx m k c main_v0_1 = xoAt m c k := Function.update_self ..

/-- Before the first grid point nothing is copied. -/
theorem xoAt_zero (c : Dev nD) : xoAt m c 0 = V m c main_v0_1 :=
  funext fun i => if_neg (by omega)
/-- Before the first grid point all buffers are as the host left them. -/
theorem Gx_zero : Gx m 0 = V m := by
  funext c b
  show Function.update _ _ _ _ = _
  rw [xoAt_zero, Function.update_eq_self]

/-- What is owned between grid points, written out. -/
theorem Phi_eq (G : (c : Dev nD) → (b : Ref sig .tc) → Buf (Elt F) ((c.tc : Thread nD τ).loc b)) (c : Dev nD) :
    (Pipeline.ΦDRV osem0 spec0 ∅ R0 (V m) G c : sProp 𝕄)
      = iprop(BI.emp ∗ semVal ((c : Thread nD τ), SemLoc.dma 11) 0 ∗ BI.emp ∗ owns (c : Thread nD τ) xoM fullShare (G c main_v0_1)) := by
  unfold Pipeline.ΦDRV
  rw [scopedRest0_eq, ownSems00_eq, BI.bigSep_empty, R0, BI.bigSep_singleton, owns_whole]

/-- The proof data: each input block in place, the two output blocks as computed, the third result filled up to the point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => zBlk (iblk m c 0 t) (iblk m c 1 t) (iblk m c 2 t) (iblk m c 3 t) (iblk m c 4 t)
    | ⟨6, _⟩ => lBlk (iblk m c 0 t) (iblk m c 1 t) (iblk m c 2 t) (iblk m c 3 t) (iblk m c 4 t)
  Φ t := Pipeline.ΦDRV osem0 spec0 ∅ R0 (V m) (Gx m t.val) c
  q _ := fullShare
  owed _ := 0

/-- The arrays at the start are as the host left them. -/
theorem A_eq (c : Dev nD) (w : Fin cfg0.W) : (dats m 0 c).A w = V m c (Pipeline.arrRef spec0 w) := by dsimp only [dats]
/-- Window 0 after the body. -/
theorem after0_0 (c : Dev nD) (t : Fin cfg0.N) : (dats m 0 c).after 0 t = iblk m c 0 t := by dsimp only [dats]
/-- Window 1 after the body. -/
theorem after0_1 (c : Dev nD) (t : Fin cfg0.N) : (dats m 0 c).after 1 t = iblk m c 1 t := by dsimp only [dats]
/-- Window 2 after the body. -/
theorem after0_2 (c : Dev nD) (t : Fin cfg0.N) : (dats m 0 c).after 2 t = iblk m c 2 t := by dsimp only [dats]
/-- Window 3 after the body. -/
theorem after0_3 (c : Dev nD) (t : Fin cfg0.N) : (dats m 0 c).after 3 t = iblk m c 3 t := by dsimp only [dats]
/-- Window 4 after the body. -/
theorem after0_4 (c : Dev nD) (t : Fin cfg0.N) : (dats m 0 c).after 4 t = iblk m c 4 t := by dsimp only [dats]
/-- Window 5 after the body. -/
theorem after0_5 (c : Dev nD) (t : Fin cfg0.N) : (dats m 0 c).after 5 t
    = zBlk (iblk m c 0 t) (iblk m c 1 t) (iblk m c 2 t) (iblk m c 3 t) (iblk m c 4 t) := by dsimp only [dats]
/-- Window 6 after the body. -/
theorem after0_6 (c : Dev nD) (t : Fin cfg0.N) : (dats m 0 c).after 6 t
    = lBlk (iblk m c 0 t) (iblk m c 1 t) (iblk m c 2 t) (iblk m c 3 t) (iblk m c 4 t) := by dsimp only [dats]

/-! Each input window's buffer holds its block when the body starts. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Window 1 before the body. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Window 2 before the body. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Window 3 before the body. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- Window 4 before the body. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- The rows that point `t` copies out start at row `1024 t`. -/
theorem off1_eq : ∀ t : Fin grid0.N, k0_off1 (grid0.coords t) = ![1024 * t.val, 0] := by decide +kernel
/-- The block of `x` at point `t` starts at the same row. -/
theorem idx1_eq : ∀ t : Fin grid0.N, win0_1.index t = ![t.val, 0] := by decide +kernel

/-- Rows already copied hold `x`. -/
theorem xoAt_lt (c : Dev nD) (k : ℕ) (i : S16384x512.Idx) (h : (i (0 : Fin 2)).val < 1024 * k) :
    xoAt m c k i = (V m c main_arg1 : S16384x512.Idx → Elt F .f32) i := if_pos h
/-- Rows not yet copied are as they were. -/
theorem xoAt_ge (c : Dev nD) (k : ℕ) (i : S16384x512.Idx) (h : ¬ (i (0 : Fin 2)).val < 1024 * k) :
    xoAt m c k i = (V m c main_v0_1 : S16384x512.Idx → Elt F .f32) i := if_neg h

/-- Writing a rectangle of the third result: at a place of the rectangle the array holds the written value. -/
theorem write_hit (c : Dev nD) (r : Rect S16384x512) (h : ∀ a, r.stride a = 1) (f : Buf (Elt F) ((c : Thread nD τ).loc main_v0_1)) (w : r.shape.Idx → Elt F .f32)
    (x : r.shape.Idx) : (View.write (Elt F) (xoM.slice r h).view f w Finset.univ : S16384x512.Idx → Elt F .f32) (r.emb x) = w x := by
  have e := View.read_slice_write_emb (v := View.whole main_v0_1) (Val := Elt F) r f w (Finset.mem_univ x)
  rw [View.read_whole] at e
  exact e

/-- One more point fills 1024 more rows. -/
theorem xo_step (c : Dev nD) (t : Fin cfg0.N) :
    (xoRows (grid0.coords t)).view.write (Elt F) (xoAt m c t.val) (iblk m c 1 t) Finset.univ = xoAt m c (t.val + 1) := by
  funext i
  have e0 : k0_off1 (grid0.coords t) (0 : Fin 2) = 1024 * t.val := congrFun (off1_eq t) 0
  have e1 : k0_off1 (grid0.coords t) (1 : Fin 2) = 0 := congrFun (off1_eq t) 1
  have hb : ∀ x : S1024x512.Idx, iblk m c 1 t x
      = (V m c main_arg1 : S16384x512.Idx → Elt F .f32) ((Rect.unit (s := S16384x512) (k0_off1 (grid0.coords t)) S1024x512.size (k0_off1_inb _)).emb x) := by
    intro x
    refine congrArg (V m c main_arg1 : S16384x512.Idx → Elt F .f32) (funext fun a => Fin.ext ?_)
    show win0_1.index t a * S1024x512.size a + 1 * (x a).val = k0_off1 (grid0.coords t) a + 1 * (x a).val
    rw [off1_eq, idx1_eq]
    match a with
    | ⟨0, _⟩ => show t.val * 1024 + _ = 1024 * t.val + _; omega
    | ⟨1, _⟩ => rfl
  by_cases hi : i ∈ (Rect.unit (s := S16384x512) (k0_off1 (grid0.coords t)) S1024x512.size (k0_off1_inb _)).set
  · obtain ⟨x, rfl⟩ : ∃ x : S1024x512.Idx, (Rect.unit (s := S16384x512) (k0_off1 (grid0.coords t)) S1024x512.size (k0_off1_inb _)).emb x = i :=
      LoadRect.exists_idx_of_mem _ hi
    have h0 : ((Rect.unit (s := S16384x512) (k0_off1 (grid0.coords t)) S1024x512.size (k0_off1_inb _)).emb x (0 : Fin 2)).val < 1024 * (t.val + 1) := by
      have e : ((Rect.unit (s := S16384x512) (k0_off1 (grid0.coords t)) S1024x512.size (k0_off1_inb _)).emb x (0 : Fin 2)).val
          = k0_off1 (grid0.coords t) (0 : Fin 2) + 1 * (x (0 : Fin 2)).val := rfl
      have : (x (0 : Fin 2)).val < 1024 := (x (0 : Fin 2)).isLt
      rw [e, e0]; omega
    rw [xoAt_lt m c _ _ h0, ← hb x]
    exact write_hit c (Rect.unit (s := S16384x512) (k0_off1 (grid0.coords t)) S1024x512.size (k0_off1_inb _)) (fun _ => rfl) (xoAt m c t.val) (iblk m c 1 t) x
  · refine (View.read_slice_write_of_not_mem (v := View.whole main_v0_1) _ (xoAt m c t.val) (iblk m c 1 t) Finset.univ (by rwa [Rect.map_emb_univ])).trans ?_
    rw [View.read_whole]
    rw [Rect.mem_set_unit] at hi
    have hi' : ¬ (1024 * t.val ≤ (i (0 : Fin 2)).val ∧ (i (0 : Fin 2)).val < 1024 * t.val + 1024) := by
      intro h
      apply hi
      intro a
      match a with
      | ⟨0, _⟩ => exact ⟨e0.le.trans h.1, h.2.trans_eq (congrArg (· + 1024) e0.symm)⟩
      | ⟨1, _⟩ => exact ⟨e1.le.trans (Nat.zero_le _), (i (1 : Fin 2)).isLt.trans_eq (by show 512 = k0_off1 (grid0.coords t) (1 : Fin 2) + 512; rw [e1])⟩
    by_cases hlt : (i (0 : Fin 2)).val < 1024 * t.val
    · exact (xoAt_lt m c _ _ hlt).trans (xoAt_lt m c _ _ (by omega)).symm
    · exact (xoAt_ge m c _ _ hlt).trans (xoAt_ge m c _ _ (by omega)).symm

/-! ## The body at a point of the pipeline -/

/-- What holds before the body at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- What holds after it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body does what the run's description says of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦDRV osem0 spec0 ∅ R0 (V m) (Gx m (t.val + 1)) c from rfl, Phi_eq, Gx_self,
    show (dats m 0 c).Φ t.castSucc = Pipeline.ΦDRV osem0 spec0 ∅ R0 (V m) (Gx m t.val) c from rfl, Phi_eq, Gx_self]
  unfold Dat.owesAt Pipeline.owesWithin
  rw [show (dats m 0 c).owed t.castSucc = 0 from rfl, show (dats m 0 c).owed t.succ = 0 from rfl]
  simp only [before0_0, before0_1, before0_2, before0_3, before0_4, after0_0, after0_1, after0_2, after0_3, after0_4, after0_5, after0_6]
  iintro ⟨⟨-, Hq, -, Hxo⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ (iblk m c 0 t) (iblk m c 1 t) (iblk m c 2 t) (iblk m c 3 t) (iblk m c 4 t) (xoAt m c t.val) W _)
  rw [xo_step]
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [Hxo]; · iexact Hxo
  isplitl [Hq]; · iexact Hq
  isplitl [HW]; · iexact HW
  iintro ⟨H0, H1, H2, H3, H4, H5, H6, Hxo, Hq, ⟨%W', HW'⟩⟩
  isplitl [Hq Hxo]
  · isplitr
    · exact .rfl
    isplitl [Hq]; · iexact Hq
    isplitr
    · exact .rfl
    iexact Hxo
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

/-- The body that grid point `t` calls. -/
theorem defs₀_row (t : Fin cfg0.N) :
    defs₀ (F := F) .tc cfg0.body (cfg0.bodyArgs t (cfg0.slots t)) = bodyAt0 t := by
  unfold defs₀; rw [Defs.onTc_tc]

/-- What the pipeline's rule asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
/-- `@main` around the one region: the host lines that make the two breakpoint rows, the region, the final reshape. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What an unstaged buffer holds at the end. -/
def endV (c : Dev nD) : Valuation τ sig (Elt F) :=
  Pipeline.withArrays spec0 c (Pipeline.withR (V0 m c) R0 c (Gx m 16 c)) fun w => (dats m 0 c).arrAt w cfg0.N

set_option backward.isDefEq.respectTransparency.types false in
/-- The whole program runs, and its buffers end as described. -/
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after (List.flatten [hostOps1]) (endV m c) (Proc.devRef .tc b))
      ∧ r.2.sem = fun _ => 0) :=
  Pipeline.θ_run_frame_dmaR_aroundV (Q' := _) cfgs (dats m) (0 : Fin 1) launch0 osem0 defs₀ Variants.none ownSemFacts0 ∅ R0
    (Finset.empty_subset _) R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := fun c b => Gx m 16 c b) (hmain := hmain m Variants.none) (hA := A_eq m)
    (hin := fun c => by show _ ⊢ Pipeline.ΦDRV osem0 spec0 ∅ R0 (V m) (Gx m 0) c; rw [Gx_zero])
    (hout := fun c => by
      show Pipeline.ΦDRV osem0 spec0 ∅ R0 (V m) (Gx m (Fin.last cfg0.N).val) c ⊢ _
      rw [show (Fin.last cfg0.N).val = 16 from N_0])
    (hQ' := fun _ h => h)

/-- The reshape that ends `@main` leaves every buffer but its own result. -/
theorem tail_keep (Vx : Valuation τ sig (Elt F)) (b : Ref sig .tc) (hb : b ≠ main_v0_2) :
    StableHlo.after (List.flatten [hostOps1]) Vx (Proc.devRef .tc b) = Vx (Proc.devRef .tc b) :=
  StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne hb))

/-- Its result is the flattened row of log-slopes. -/
theorem tail_v0_2 (Vx : Valuation τ sig (Elt F)) :
    StableHlo.after (List.flatten [hostOps1]) Vx (Proc.devRef .tc main_v0_2)
      = (shapeCast S16384 (Vx (Proc.devRef .tc main_call0_v6_1) : Vec F S1x16384 .f32) shapeCasts_S1x16384_S16384 : Vec F S16384 .f32) := by
  simp only [List.flatten_cons, List.flatten_nil, List.append_nil]
  after_results
  rfl

/-- The pipeline's arrays at the end. -/
theorem endV_arr (c : Dev nD) (w : Fin 7) : endV m c (Proc.devRef .tc (Pipeline.arrRef spec0 w)) = (dats m 0 c).arrAt w cfg0.N :=
  Pipeline.withArrays_arr spec0 launch0.win.arr_inj c _ _ w

/-- The other buffers at the end are unchanged. -/
theorem endV_rest (c : Dev nD) (b : Ref sig .tc) (hb : ∀ w, Pipeline.arrRef spec0 w ≠ b) (hR : b ∉ R0) :
    endV m c (Proc.devRef .tc b) = V m c b :=
  (Pipeline.withArrays_of_ne spec0 c _ _ b hb).trans (Pipeline.withR_of_not_mem _ R0 c _ b hR)

/-- The copied array at the end is `x`. -/
theorem endV_xo (c : Dev nD) : endV m c (Proc.devRef .tc main_v0_1) = m ((c : Thread nD τ).loc main_arg1) := by
  refine (Pipeline.withArrays_of_ne spec0 c _ _ main_v0_1 (by exact (by decide : ∀ w, Pipeline.arrRef spec0 w ≠ main_v0_1))).trans ?_
  refine (Pipeline.withR_of_mem _ R0 c _ main_v0_1 (by decide)).trans ?_
  rw [Gx_self]
  funext i
  have hi : (i (0 : Fin 2)).val < 16384 := (i (0 : Fin 2)).isLt
  exact (xoAt_lt m c 16 i (by omega)).trans (congrFun (V_main_arg1 m c) i)

/-- THE RUN: the two computed results as the pipeline leaves them, the third result equal to `x`, every argument unchanged, every
    semaphore counter at zero. -/
theorem run : θ_run defs (onTc (τ := τ) (main (F := F))) ⟨m, fun _ => 0, ρ⟩ (fun r => (∀ c : Dev nD,
      r.2.mem ((c.tc : Thread nD τ).loc main_v0_0) = (dats m 0 c).arrAt 5 cfg0.N
      ∧ r.2.mem ((c.tc : Thread nD τ).loc main_v0_1) = m ((c.tc : Thread nD τ).loc main_arg1)
      ∧ r.2.mem ((c.tc : Thread nD τ).loc main_v0_2)
          = (shapeCast S16384 ((dats m 0 c).arrAt 6 cfg0.N : Vec F S1x16384 .f32) shapeCasts_S1x16384_S16384 : Vec F S16384 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 5,
      ((h.1 c).2 main_v0_1 (Pipeline.mem_restRefs_of main_v0_1 (by decide) (by decide))).trans ((tail_keep _ _ (by decide)).trans (endV_xo m c)),
      ((h.1 c).2 main_v0_2 (Pipeline.mem_restRefs_of main_v0_2 (by decide) (by decide))).trans ((tail_v0_2 _).trans (by
        rw [show endV m c (Proc.devRef .tc main_call0_v6_1) = (dats m 0 c).arrAt 6 cfg0.N from endV_arr m c 6])),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans ((tail_keep _ _ (by decide)).trans
        ((endV_rest m c main_arg2 (by exact (by decide : ∀ w, Pipeline.arrRef spec0 w ≠ main_arg2)) (by decide)).trans (V_main_arg2 m c))),
      ((h.1 c).1 2).trans (((dats m 0 c).arrAt_in 2 rfl _).trans ((A_eq m c 2).trans (V_main_arg3 m c))),
      ((h.1 c).2 main_arg4 (Pipeline.mem_restRefs_of main_arg4 (by decide) (by decide))).trans ((tail_keep _ _ (by decide)).trans
        ((endV_rest m c main_arg4 (by exact (by decide : ∀ w, Pipeline.arrRef spec0 w ≠ main_arg4)) (by decide)).trans (V_main_arg4 m c)))⟩, h.2⟩)
    (run_main m ρ)

end Cert.KernelIdeal.Hand
-- ==== Proof.Spline.lean ====
/-
  The mathematics of one row, over the real numbers. A row has 1024 positive weights `e j = exp (s j)`, of logits `s`. Their
  running sums, divided by their total, are the values at the knots `j / 1023` of a piecewise linear function of `y` on
  `[0, 1)`; `height` is its value at `y` and `slope` its derivative there.
-/
module

public import Mathlib.Analysis.SpecialFunctions.Exp
public import Mathlib.Algebra.Order.Floor.Semiring
public import Mathlib.Tactic.Positivity
public import Mathlib.Tactic.FieldSimp
public import Mathlib.Tactic.Linarith
public import Mathlib.Tactic.Ring
public import Mathlib.Algebra.BigOperators.Field
public import Mathlib.Order.Interval.Finset.Fin
public import Mathlib.Algebra.Order.Floor.Ring

@[expose] public section

noncomputable section

namespace Cert.Spline

/-- The number of the piece that holds `y`: the last knot at or below it. -/
def piece (y : ℝ) : ℕ := ⌊y * 1023⌋₊

/-- The sum of the weights up to the knot `k`, inclusive. -/
def upTo (e : Fin 1024 → ℝ) (k : ℕ) : ℝ := ∑ j : Fin 1024, if j.val ≤ k then e j else 0

/-- The sum of all weights. -/
def total (e : Fin 1024 → ℝ) : ℝ := ∑ j : Fin 1024, e j

/-- The derivative at `y`: the rise between the two knots around `y` over their distance `1 / 1023`. -/
def slope (e : Fin 1024 → ℝ) (y : ℝ) : ℝ := (upTo e (piece y + 1) - upTo e (piece y)) / (total e * (1 / 1023))

/-- The value at `y`: the value at the knot below and the slope times the distance from it. -/
def height (e : Fin 1024 → ℝ) (y : ℝ) : ℝ := upTo e (piece y) / total e + slope e y * (y - piece y * (1 / 1023))

/-- The logit of a row `x` in column `j`. -/
def logit (x : Fin 512 → ℝ) (w : Fin 512 → Fin 1024 → ℝ) (j : Fin 1024) : ℝ := ∑ k : Fin 512, x k * w k j

/-- The weights of a row `x`. -/
def weight (x : Fin 512 → ℝ) (w : Fin 512 → Fin 1024 → ℝ) (j : Fin 1024) : ℝ := Real.exp (logit x w j)

/-- A weight is positive. -/
theorem weight_pos (x : Fin 512 → ℝ) (w : Fin 512 → Fin 1024 → ℝ) (j : Fin 1024) : 0 < weight x w j := Real.exp_pos _

/-- The total of positive weights is positive. -/
theorem total_pos {e : Fin 1024 → ℝ} (h : ∀ j, 0 < e j) : 0 < total e :=
  Finset.sum_pos (fun j _ => h j) ⟨0, Finset.mem_univ _⟩

/-- Below 1 there is a knot above `y`. -/
theorem piece_lt {y : ℝ} (h1 : y < 1) : piece y < 1023 := by
  unfold piece
  rw [Nat.floor_lt' (by norm_num)]
  push_cast
  linarith

/-- `y` is at or beyond the knot `j` exactly when the knot's number is at most that of the piece. -/
theorem knot_le_iff {y : ℝ} (h0 : 0 ≤ y) (j : ℕ) : (j : ℝ) / 1023 ≤ y ↔ j ≤ piece y := by
  unfold piece
  rw [Nat.le_floor_iff (by positivity), div_le_iff₀ (by norm_num)]

/-- The number of the piece is the floor of `1023 y`. -/
theorem piece_eq_floor {y : ℝ} (h0 : 0 ≤ y) : ((⌊y * 1023⌋ : ℤ) : ℝ) = (piece y : ℝ) := by
  unfold piece
  rw [← natCast_floor_eq_intCast_floor (by positivity : 0 ≤ y * 1023)]

/-- So many knots are at or below `y`. -/
theorem card_knots {y : ℝ} (h1 : y < 1) :
    (Finset.univ.filter fun j : Fin 1024 => j.val ≤ piece y).card = piece y + 1 := by
  have h := piece_lt h1
  have : (Finset.univ.filter fun j : Fin 1024 => j.val ≤ piece y) = Finset.Iic (⟨piece y, by omega⟩ : Fin 1024) := by
    ext j; simp [Fin.le_def]
  rw [this, Fin.card_Iic]

/-- The weights over their total, from shifted logits: the shift cancels. -/
theorem softmax_shift (s : Fin 1024 → ℝ) (M : ℝ) (j : Fin 1024) :
    Real.exp (s j - M) / ∑ k, Real.exp (s k - M) = Real.exp (s j) / total (fun k => Real.exp (s k)) := by
  have hM := (Real.exp_pos M).ne'
  have : (∑ k, Real.exp (s k - M)) = total (fun k => Real.exp (s k)) / Real.exp M := by
    unfold total; rw [Finset.sum_div]; simp only [Real.exp_sub]
  rw [this, Real.exp_sub]
  have hT := (total_pos (e := fun k => Real.exp (s k)) fun k => Real.exp_pos _).ne'
  field_simp

/-- Running sums of the quotients are the quotients of the running sums. -/
theorem upTo_div (e : Fin 1024 → ℝ) (T : ℝ) (k : ℕ) : upTo (fun j => e j / T) k = upTo e k / T := by
  unfold upTo
  rw [Finset.sum_div]
  exact Finset.sum_congr rfl fun j _ => by split <;> simp

/-- The slope as the rise between the two knots over their distance. -/
theorem slope_eq (e : Fin 1024 → ℝ) (h : ∀ j, 0 < e j) (y : ℝ) :
    (upTo e (piece y + 1) / total e - upTo e (piece y) / total e)
      / (((piece y + 1 : ℕ) : ℝ) / 1023 - (piece y : ℝ) / 1023) = slope e y := by
  have hT := (total_pos h).ne'
  unfold slope
  have : ((piece y + 1 : ℕ) : ℝ) / 1023 - (piece y : ℝ) / 1023 = 1 / 1023 := by push_cast; ring
  rw [this]
  field_simp

/-- The value as the reference writes it. -/
theorem height_eq (e : Fin 1024 → ℝ) (y : ℝ) :
    upTo e (piece y) / total e + (y - (piece y : ℝ) / 1023) * slope e y = height e y := by
  unfold height; ring

end Cert.Spline
-- ==== Proof.Consts.lean ====
/-
  The numbers that the two programs' literals denote over the extended reals, and how sums and quotients of real numbers
  stay real.
-/
module

public import Idealize.ShloMosaic.PureOps.Ideal

@[expose] public section

noncomputable section

namespace Cert.Consts

open Idealize.ShloMosaic

/-- The float word of 1. -/
theorem lit_one : Ideal.ofBits .f32 0x3F800000#32 = ((1 : ℝ) : EReal) := by
  simp [Ideal.ofBits, Ideal.ieee, -EReal.coe_mul]; norm_num
/-- The float word of -1. -/
theorem lit_neg_one : Ideal.ofBits .f32 0xBF800000#32 = ((-1 : ℝ) : EReal) := by
  simp [Ideal.ofBits, Ideal.ieee, -EReal.coe_mul]; norm_num
/-- The float word of 1023. -/
theorem lit_1023 : Ideal.ofBits .f32 0x447FC000#32 = ((1023 : ℝ) : EReal) := by
  simp [Ideal.ofBits, Ideal.ieee, -EReal.coe_mul]; norm_num
/-- The float word of minus infinity. -/
theorem lit_bot : Ideal.ofBits .f32 0xFF800000#32 = ⊥ := by
  simp [Ideal.ofBits, Ideal.ieee]
/-- The float word of infinity. -/
theorem lit_top : Ideal.ofBits .f32 0x7F800000#32 = ⊤ := by
  simp [Ideal.ofBits, Ideal.ieee]
/-- The float word of 0. -/
theorem lit_zero : Ideal.ofBits .f32 0x00000000#32 = ((0 : ℝ) : EReal) := by
  simp [Ideal.ofBits, Ideal.ieee]

/-- A quotient of reals with a divisor that isn't zero is real. -/
theorem div_real (a : ℝ) {b : ℝ} (h : b ≠ 0) : Ideal.div (a : EReal) (b : EReal) = ((a / b : ℝ) : EReal) := by
  rw [Ideal.div_coe h, ← EReal.coe_mul]; congr 1; ring

/-- A finite sum of reals is real. -/
theorem sum_real {n : ℕ} (f : Fin n → ℝ) : (∑ k, (f k : EReal)) = ((∑ k, f k : ℝ) : EReal) :=
  (map_sum (⟨⟨Real.toEReal, EReal.coe_zero⟩, EReal.coe_add⟩ : ℝ →+ EReal) f Finset.univ).symm

/-- A comparison "at least" of reals. -/
theorem cmp_oge (a b : ℝ) : Ideal.cmp .oge (a : EReal) (b : EReal) = BitVec.ofBool (decide (b ≤ a)) := by
  simp [Ideal.cmp]

/-- A selection by the bit of a proposition. -/
theorem select_ofBool {α : Type} (p : Prop) [Decidable p] (x y : α) :
    Scalar.select (BitVec.ofBool (decide p)) x y = if p then x else y := by
  by_cases h : p <;> simp [h, Scalar.select]

/-- A small number, as a 32-bit word and back to a real number. -/
theorem word_real (n : ℕ) (h : n < 2 ^ 31) : (FloatOps.sitofp .f32 (BitVec.ofNat 32 n) : Ideal .f32) = ((n : ℝ) : EReal) := by
  have e : (BitVec.ofNat 32 n).toInt = (n : ℤ) := by
    rw [BitVec.toInt_eq_toNat_of_lt (by rw [BitVec.toNat_ofNat]; omega), BitVec.toNat_ofNat]; congr 1; omega
  show (((BitVec.ofNat 32 n).toInt : ℝ) : EReal) = _
  rw [e]; norm_num

end Cert.Consts
-- ==== Proof.Rows.lean ====
/-
  The two computed results as functions of the arguments: each row's height, and the log of its absolute slope. Both programs
  are shown to compute these for real arguments.
-/
module

public import proofs.«01_k».proof.Proof.Spline
public import proofs.«01_k».proof.Proof.Consts
public import Idealize.ShloMosaic.Lib.Pointwise

@[expose] public section

noncomputable section

namespace Cert.Spline

open Idealize.ShloMosaic

/-- A row of a block. -/
abbrev rowOf {n : ℕ} (x : (⟨2, ![n, 512]⟩ : Shape).Idx → ℝ) (r : Fin n) : Fin 512 → ℝ := fun k => x (ix2 r k)
/-- The matrix as a function of row and column. -/
abbrev matOf (w : (⟨2, ![512, 1024]⟩ : Shape).Idx → ℝ) : Fin 512 → Fin 1024 → ℝ := fun k j => w (ix2 k j)

/-- The log of the absolute value, over the extended reals. -/
def logAbs (v : ℝ) : EReal := Ideal.log (max (v : EReal) (-(v : EReal)))

variable (y : (⟨2, ![16384, 1]⟩ : Shape).Idx → ℝ) (x : (⟨2, ![16384, 512]⟩ : Shape).Idx → ℝ) (w : (⟨2, ![512, 1024]⟩ : Shape).Idx → ℝ)

/-- The height of row `r`. -/
def heightAt (r : Fin 16384) : EReal := (height (weight (rowOf x r) (matOf w)) (y (ix2 r 0)) : ℝ)

/-- The log of the absolute slope of row `r`. -/
def logSlopeAt (r : Fin 16384) : EReal := logAbs (slope (weight (rowOf x r) (matOf w)) (y (ix2 r 0)))

end Cert.Spline
-- ==== Proof.KernelIdealBlock.lean ====
/-
  What one call of the kernel body computes, row by row, for real inputs: the value and the log of the absolute slope of the
  row's piecewise linear function.
-/
module

public import proofs.«01_k».proof.Proof.KernelIdealRun
public import proofs.«01_k».proof.Proof.Rows

@[expose] public section

noncomputable section

namespace Cert.KernelIdeal.Hand

open Cert.KernelIdeal Cert.KernelIdeal.Gen Cert.Consts Cert.Spline
open Idealize.ShloMosaic

/-- The knots as the kernel's first row of breakpoints holds them. -/
def knots : Vec Ideal S1x1024 .f32 := fun i => ((((i 1).val : ℝ) / 1023 : ℝ) : EReal)
/-- The knots one place later, with -1 in front. -/
def knotsBefore : Vec Ideal S1x1024 .f32 := fun i => ((if (i 1).val = 0 then -1 else (((i 1).val - 1 : ℕ) : ℝ) / 1023 : ℝ) : EReal)

variable (y : S1024x1.Idx → ℝ) (x : S1024x512.Idx → ℝ) (w : S512x1024.Idx → ℝ)

/-- The named constant is 1 / 1023. -/
theorem named_h : (Named.named κ "h" 0x3A802008#32 : Ideal .f32) = ((1 / 1023 : ℝ) : EReal) :=
  IdealRules.named_const.ideal_named_scalar _ _ _ _ rfl

/-- The exponentials of the block's logits are the rows' weights. -/
theorem weights_eq (r : Fin 1024) (j : Fin 1024) :
    k0_pay3 (F := Ideal) (fun i => (x i : EReal)) (fun i => (w i : EReal)) (ix2 r j) = (weight (rowOf x r) (matOf w) j : EReal) := by
  pointwise [k0_pay3]
  simp only [← EReal.coe_mul, sum_real, Ideal.exp_coe]
  rfl

/-- Their row sums are the rows' totals. -/
theorem total_eq (r : Fin 1024) :
    k0_pay4 (F := Ideal) (fun i => (x i : EReal)) (fun i => (w i : EReal)) (ix2 r 0) = (total (weight (rowOf x r) (matOf w)) : EReal) := by
  pointwise [k0_pay4]
  simp only [weights_eq, sum_real]
  rfl

/-- A sum over the columns whose knot is at or below a number. -/
theorem sum_knots (e : Fin 1024 → ℝ) (p : Fin 1024 → Prop) [DecidablePred p] :
    (∑ j, if p j then (e j : EReal) else 0) = ((∑ j, if p j then e j else 0 : ℝ) : EReal) := by
  rw [← sum_real]
  exact Finset.sum_congr rfl fun j _ => by split <;> simp

/-- A knot is at or below `v` exactly when its number is at most the piece's. -/
theorem knots_le (v : ℝ) (h0 : 0 ≤ v) (j : Fin 1024) : knots (ix2 0 j) ≤ (v : EReal) ↔ j.val ≤ piece v := by
  rw [← knot_le_iff h0]
  exact EReal.coe_le_coe_iff

/-- One place later, exactly when its number is at most one more. -/
theorem knotsBefore_le (v : ℝ) (h0 : 0 ≤ v) (j : Fin 1024) : knotsBefore (ix2 0 j) ≤ (v : EReal) ↔ j.val ≤ piece v + 1 := by
  refine EReal.coe_le_coe_iff.trans ?_
  by_cases h : j.val = 0
  · simp only [ix2_1, h, if_true]
    exact ⟨fun _ => by omega, fun _ => by linarith⟩
  · simp only [ix2_1, h, if_false]
    rw [knot_le_iff h0]
    omega

/-- The first masked sum is the running sum at the knot below. -/
theorem upTo_eq (r : Fin 1024) (h0 : 0 ≤ y (ix2 r 0)) :
    k0_pay5 (F := Ideal) (fun i => (x i : EReal)) (fun i => (w i : EReal)) (fun i => (y i : EReal)) knots (ix2 r 0)
      = (upTo (weight (rowOf x r) (matOf w)) (piece (y (ix2 r 0))) : EReal) := by
  pointwise [k0_pay5]
  simp only [weights_eq, knots_le _ h0, sum_knots]
  rfl

/-- The body's slope is the row's. -/
theorem slope_block (r : Fin 1024) (h0 : 0 ≤ y (ix2 r 0)) :
    k0_pay8 (F := Ideal) (fun i => (x i : EReal)) (fun i => (w i : EReal)) (fun i => (y i : EReal)) knots knotsBefore (ix2 r 0)
      = (slope (weight (rowOf x r) (matOf w)) (y (ix2 r 0)) : EReal) := by
  have hT := (total_pos (weight_pos (rowOf x r) (matOf w))).ne'
  pointwise [k0_pay8]
  simp only [weights_eq, knotsBefore_le _ h0, sum_knots, upTo_eq y x w r h0, total_eq, named_h]
  rw [← EReal.coe_mul, ← EReal.coe_sub, div_real _ (mul_ne_zero hT (by norm_num))]
  rfl

/-- The first result of a block: the value of the row's function. -/
theorem zBlk_eq (r : Fin 1024) (h0 : 0 ≤ y (ix2 r 0)) :
    zBlk (F := Ideal) (fun i => (y i : EReal)) (fun i => (x i : EReal)) (fun i => (w i : EReal)) knots knotsBefore (ix2 r 0)
      = (height (weight (rowOf x r) (matOf w)) (y (ix2 r 0)) : EReal) := by
  have hT := (total_pos (weight_pos (rowOf x r) (matOf w))).ne'
  pointwise [zBlk, k0_pay1, k0_pay6, k0_pay7]
  simp only [upTo_eq y x w r h0, slope_block y x w r h0, total_eq, named_h, lit_1023]
  rw [div_real _ hT, ← EReal.coe_mul, Ideal.liftRound_coe, piece_eq_floor h0, ← EReal.coe_mul, ← EReal.coe_sub, ← EReal.coe_mul,
    ← EReal.coe_add]
  rfl

/-- The second result of a block: the log of the absolute slope. -/
theorem lBlk_eq (r : Fin 1024) (h0 : 0 ≤ y (ix2 r 0)) :
    lBlk (F := Ideal) (fun i => (y i : EReal)) (fun i => (x i : EReal)) (fun i => (w i : EReal)) knots knotsBefore (ix2 0 r)
      = logAbs (slope (weight (rowOf x r) (matOf w)) (y (ix2 r 0))) := by
  pointwise [lBlk, k0_pay2]
  rw [slope_block y x w r h0]
  rfl

end Cert.KernelIdeal.Hand
-- ==== Proof.KernelIdealKnots.lean ====
/-
  The two rows of breakpoints that the host lines before the kernel's grid compute: the knots `j / 1023`, and the same row
  moved one place on with -1 in front.
-/
module

public import proofs.«01_k».proof.Proof.KernelIdealBlock
public import Idealize.ShloMosaic.Lib.StableHlo.Run

@[expose] public section

noncomputable section

namespace Cert.KernelIdeal.Hand

open Cert.KernelIdeal Cert.KernelIdeal.Gen Cert.Consts Cert.Spline
open Idealize.ShloMosaic Idealize.ShloMosaic.TcCoe Idealize.SL.Sem

/-- The evenly spaced points that the host computes, before the last one is put in. -/
def spaced : FVec Ideal S1023 .f32 :=
  let zero : FVec Ideal S_ .f32 := constant S_ .f32 0x00000000#32
  let one : FVec Ideal S_ .f32 := constant S_ .f32 0x3F800000#32
  let step : FVec Ideal S1023 .f32 := Host.divf (sitofp .f32 (iotaInDim S1023 32 0)) (broadcastInDim S1023 ![] bcast_S_S1023 (constant S_ .f32 0x447FC000#32))
  addf (mulf (broadcastInDim S1023 ![0] bcast_S1_S1023_0 (shapeCast S1 zero shapeCasts_S_S1)) (subf (broadcastInDim S1023 ![] bcast_S_S1023 one) step))
    (mulf (broadcastInDim S1023 ![0] bcast_S1_S1023_0 (shapeCast S1 one shapeCasts_S_S1)) step)

/-- All of them. -/
def line : FVec Ideal S1024 .f32 :=
  concatenate S1024 0 [⟨S1023, spaced⟩, ⟨S1, broadcastInDim S1 ![] bcast_S_S1 (constant (F := Ideal) S_ .f32 0x3F800000#32)⟩] concatenates_S1023_S1_S1024_d0

/-- The same one place on. -/
def lineBefore : FVec Ideal S1024 .f32 :=
  concatenate S1024 0 [⟨S1, broadcastInDim S1 ![] bcast_S_S1 (constant (F := Ideal) S_ .f32 0xBF800000#32)⟩, ⟨S1023, extractStridedSlice S1023 ![0] line slices_S1024_S1023_0⟩] concatenates_S1_S1023_S1024_d0

/-- The evenly spaced numbers, all but the last. -/
theorem spaced_apply (j : Fin 1023) : spaced (ix1 j) = ((j.val / 1023 : ℝ) : EReal) := by
  pointwise [spaced]
  rw [word_real _ (by omega), lit_1023, div_real _ (by norm_num), zero_mul, zero_add]

/-- The knots as a list. -/
theorem line_apply (j : Fin 1024) : line (ix1 j) = ((j.val / 1023 : ℝ) : EReal) := by
  pointwise [line]
  split
  · exact spaced_apply _
  · rw [show j.val = 1023 by omega]; norm_num

/-- The knots one place later, with -1 in front, as a list. -/
theorem lineBefore_apply (j : Fin 1024) : lineBefore (ix1 j) = ((if j.val = 0 then -1 else ((j.val - 1 : ℕ) : ℝ) / 1023 : ℝ) : EReal) := by
  pointwise [lineBefore]
  simp only [lit_neg_one, line_apply]
  by_cases h : j.val = 0
  · simp [h]
  · rw [dif_neg (by omega), if_neg h]

/-- The list of knots as a row. -/
theorem line_row : (shapeCast S1x1024 line shapeCasts_S1024_S1x1024 : FVec Ideal S1x1024 .f32) = knots := by
  funext i
  rw [eq_ix2 i]
  pointwise [knots]
  exact line_apply _

/-- The list of knots one place later as a row. -/
theorem lineBefore_row : (shapeCast S1x1024 lineBefore shapeCasts_S1024_S1x1024 : FVec Ideal S1x1024 .f32) = knotsBefore := by
  funext i
  rw [eq_ix2 i]
  pointwise [knotsBefore]
  exact lineBefore_apply _

variable (m : (ℓ : Loc nD τ sig) → Buf (Elt Ideal) ℓ)

/-- What the kernel's fourth argument holds: the knots. -/
theorem V_knots (c : Dev nD) : V m c main_call0_v4 = knots := by
  refine Eq.trans ?_ line_row
  show StableHlo.after (List.flatten [hostOps0]) (fun b => m (c, b)) (Proc.devRef .tc main_call0_v4) = _
  simp only [hostOps0, List.flatten_cons, List.flatten_nil, List.append_nil]
  after_results
  rfl

/-- What the kernel's fifth argument holds: the knots one place later. -/
theorem V_knotsBefore (c : Dev nD) : V m c main_call0_v5 = knotsBefore := by
  refine Eq.trans ?_ lineBefore_row
  show StableHlo.after (List.flatten [hostOps0]) (fun b => m (c, b)) (Proc.devRef .tc main_call0_v5) = _
  simp only [hostOps0, List.flatten_cons, List.flatten_nil, List.append_nil]
  after_results
  rfl

end Cert.KernelIdeal.Hand
-- ==== Proof.KernelIdealArray.lean ====
/-
  The kernel's result arrays for real arguments: the blocks that the grid points write fill the arrays, and each holds the rows'
  heights and the logs of the rows' absolute slopes.
-/
module

public import proofs.«01_k».proof.Proof.KernelIdealKnots

@[expose] public section

noncomputable section

namespace Cert.KernelIdeal.Hand

open Cert.KernelIdeal Cert.KernelIdeal.Gen Cert.Consts Cert.Spline
open Idealize.ShloMosaic Idealize.ShloMosaic.TcCoe Idealize.SL.Sem
open Idealize.ShloMosaic.Pipeline (Dat)

variable (m : (ℓ : Loc nD τ sig) → Buf (Elt Ideal) ℓ) (c : Dev nD)
variable (y : S16384x1.Idx → ℝ) (x : S16384x512.Idx → ℝ) (w : S512x1024.Idx → ℝ)

/-! ## Where the blocks lie -/

/-- Block `t` of `y` is number `t` along the rows. -/
theorem idx0_eq : ∀ t : Fin grid0.N, win0_0.index t = ![t.val, 0] := by decide +kernel
/-- `W` is one block. -/
theorem idx2_eq : ∀ t : Fin grid0.N, win0_2.index t = ![0, 0] := by decide +kernel
/-- The knots are one block. -/
theorem idx3_eq : ∀ t : Fin grid0.N, win0_3.index t = ![0, 0] := by decide +kernel
/-- The knots one place later are one block. -/
theorem idx4_eq : ∀ t : Fin grid0.N, win0_4.index t = ![0, 0] := by decide +kernel
/-- Block `t` of the first result is number `t` along the rows. -/
theorem idx5_eq : ∀ t : Fin grid0.N, win0_5.index t = ![t.val, 0] := by decide +kernel
/-- Block `t` of the log-slopes is number `t` along their one row. -/
theorem idx6_eq : ∀ t : Fin grid0.N, win0_6.index t = ![0, t.val] := by decide +kernel

/-- The row of the whole array that is row `r` of block `t`. -/
def rowAt (t : Fin cfg0.N) (r : Fin 1024) : Fin 16384 :=
  ⟨t.val * 1024 + r.val, by have : t.val < 16 := t.isLt.trans_eq N_0; omega⟩

/-! ## The input blocks -/

/-- Block `t` of `y` holds its rows from `1024 t` on. -/
theorem block_y (hy : m ((c : Thread nD τ).loc main_arg0) = fun i => ((y i : ℝ) : EReal)) (t : Fin cfg0.N) :
    iblk m c 0 t = fun i : S1024x1.Idx => ((y (ix2 (rowAt t (i 0)) 0) : ℝ) : EReal) := by
  funext i
  refine Eq.trans (congrFun ((V_main_arg0 m c).trans hy) _) ?_
  refine congrArg (fun i => ((y i : ℝ) : EReal)) (funext fun a => Fin.ext ?_)
  show win0_0.index t a * S1024x1.size a + 1 * (i a).val = _
  rw [idx0_eq]
  match a with
  | ⟨0, _⟩ => show t.val * 1024 + 1 * (i (0 : Fin 2)).val = t.val * 1024 + (i (0 : Fin 2)).val; omega
  | ⟨1, _⟩ => show 0 * 1 + 1 * (i (1 : Fin 2)).val = 0; have : (i (1 : Fin 2)).val < 1 := (i (1 : Fin 2)).isLt; omega

/-- Block `t` of `x` holds its rows from `1024 t` on. -/
theorem block_x (hx : m ((c : Thread nD τ).loc main_arg1) = fun i => ((x i : ℝ) : EReal)) (t : Fin cfg0.N) :
    iblk m c 1 t = fun i : S1024x512.Idx => ((x (ix2 (rowAt t (i 0)) (i 1)) : ℝ) : EReal) := by
  funext i
  refine Eq.trans (congrFun ((V_main_arg1 m c).trans hx) _) ?_
  refine congrArg (fun i => ((x i : ℝ) : EReal)) (funext fun a => Fin.ext ?_)
  show win0_1.index t a * S1024x512.size a + 1 * (i a).val = _
  rw [idx1_eq]
  match a with
  | ⟨0, _⟩ => show t.val * 1024 + 1 * (i (0 : Fin 2)).val = t.val * 1024 + (i (0 : Fin 2)).val; omega
  | ⟨1, _⟩ => show 0 * 512 + 1 * (i (1 : Fin 2)).val = (i (1 : Fin 2)).val; omega

/-- Each grid point sees the whole of `W`. -/
theorem block_w (hw : m ((c : Thread nD τ).loc main_arg3) = fun i => ((w i : ℝ) : EReal)) (t : Fin cfg0.N) :
    iblk m c 2 t = fun i : S512x1024.Idx => ((w i : ℝ) : EReal) := by
  funext i
  refine Eq.trans (congrFun ((V_main_arg3 m c).trans hw) _) ?_
  refine congrArg (fun i => ((w i : ℝ) : EReal)) (funext fun a => Fin.ext ?_)
  show win0_2.index t a * S512x1024.size a + 1 * (i a).val = _
  rw [idx2_eq]
  match a with
  | ⟨0, _⟩ => show 0 * 512 + 1 * (i (0 : Fin 2)).val = (i (0 : Fin 2)).val; omega
  | ⟨1, _⟩ => show 0 * 1024 + 1 * (i (1 : Fin 2)).val = (i (1 : Fin 2)).val; omega

/-- Each grid point sees all knots. -/
theorem block_knots (t : Fin cfg0.N) : iblk m c 3 t = knots := by
  funext i
  refine Eq.trans (congrFun (V_knots m c) _) ?_
  refine congrArg knots (funext fun a => Fin.ext ?_)
  show win0_3.index t a * S1x1024.size a + 1 * (i a).val = _
  rw [idx3_eq]
  match a with
  | ⟨0, _⟩ => show 0 * 1 + 1 * (i (0 : Fin 2)).val = (i (0 : Fin 2)).val; omega
  | ⟨1, _⟩ => show 0 * 1024 + 1 * (i (1 : Fin 2)).val = (i (1 : Fin 2)).val; omega

/-- Each grid point sees all knots one place later. -/
theorem block_knotsBefore (t : Fin cfg0.N) : iblk m c 4 t = knotsBefore := by
  funext i
  refine Eq.trans (congrFun (V_knotsBefore m c) _) ?_
  refine congrArg knotsBefore (funext fun a => Fin.ext ?_)
  show win0_4.index t a * S1x1024.size a + 1 * (i a).val = _
  rw [idx4_eq]
  match a with
  | ⟨0, _⟩ => show 0 * 1 + 1 * (i (0 : Fin 2)).val = (i (0 : Fin 2)).val; omega
  | ⟨1, _⟩ => show 0 * 1024 + 1 * (i (1 : Fin 2)).val = (i (1 : Fin 2)).val; omega

/-! ## What each point writes back -/

section
variable (hy : m ((c : Thread nD τ).loc main_arg0) = fun i => ((y i : ℝ) : EReal))
variable (hx : m ((c : Thread nD τ).loc main_arg1) = fun i => ((x i : ℝ) : EReal))
variable (hw : m ((c : Thread nD τ).loc main_arg3) = fun i => ((w i : ℝ) : EReal))
variable (h0 : ∀ i, 0 ≤ y i)
include hy hx hw h0

/-- The first result array. -/
abbrev zArr : S16384x1.Idx → EReal := fun i => heightAt y x w (i 0)
/-- The second result array. -/
abbrev lArr : S1x16384.Idx → EReal := fun i => logSlopeAt y x w (i 1)

/-- What grid point `t` writes out of the first result is that block of the rows' heights. -/
theorem flushed_z (t : Fin cfg0.N) :
    (dats m 0 c).flushed 5 t = (win0_5.blk t).view.read (Elt Ideal) (zArr y x w) := by
  show (cfg0.win 5).cut (grid0.coords t) ((dats m 0 c).after 5 t) = _
  rw [after0_5, block_y m c y hy, block_x m c x hx, block_w m c w hw, block_knots, block_knotsBefore]
  funext i
  have e : ((win0_5.blk t).view.read (Elt Ideal) (zArr y x w)) i = heightAt y x w (rowAt t (i (0 : Fin 2))) := by
    refine congrArg (heightAt y x w) (Fin.ext ?_)
    show win0_5.index t (0 : Fin 2) * 1024 + 1 * (i (0 : Fin 2)).val = t.val * 1024 + (i (0 : Fin 2)).val
    rw [idx5_eq]
    show t.val * 1024 + _ = _
    omega
  rw [e]
  refine Eq.trans ?_ (zBlk_eq (fun i : S1024x1.Idx => y (ix2 (rowAt t (i 0)) 0)) (fun i : S1024x512.Idx => x (ix2 (rowAt t (i 0)) (i 1))) w
    (i (0 : Fin 2)) (h0 _))
  refine congrArg (zBlk (F := Ideal) _ _ _ _ _) (funext fun a => Fin.ext ?_)
  match a with
  | ⟨0, _⟩ => rfl
  | ⟨1, _⟩ => show (i (1 : Fin 2)).val = 0; have : (i (1 : Fin 2)).val < 1 := (i (1 : Fin 2)).isLt; omega

/-- What grid point `t` writes out of the log-slopes is that block of the rows' log-slopes. -/
theorem flushed_l (t : Fin cfg0.N) :
    (dats m 0 c).flushed 6 t = (win0_6.blk t).view.read (Elt Ideal) (lArr y x w) := by
  show (cfg0.win 6).cut (grid0.coords t) ((dats m 0 c).after 6 t) = _
  rw [after0_6, block_y m c y hy, block_x m c x hx, block_w m c w hw, block_knots, block_knotsBefore]
  funext i
  have e : ((win0_6.blk t).view.read (Elt Ideal) (lArr y x w)) i = logSlopeAt y x w (rowAt t (i (1 : Fin 2))) := by
    refine congrArg (logSlopeAt y x w) (Fin.ext ?_)
    show win0_6.index t (1 : Fin 2) * 1024 + 1 * (i (1 : Fin 2)).val = t.val * 1024 + (i (1 : Fin 2)).val
    rw [idx6_eq]
    show t.val * 1024 + _ = _
    omega
  rw [e]
  refine Eq.trans ?_ (lBlk_eq (fun i : S1024x1.Idx => y (ix2 (rowAt t (i 0)) 0)) (fun i : S1024x512.Idx => x (ix2 (rowAt t (i 0)) (i 1))) w
    (i (1 : Fin 2)) (h0 _))
  refine congrArg (lBlk (F := Ideal) _ _ _ _ _) (funext fun a => Fin.ext ?_)
  match a with
  | ⟨0, _⟩ => show (i (0 : Fin 2)).val = 0; have : (i (0 : Fin 2)).val < 1 := (i (0 : Fin 2)).isLt; omega
  | ⟨1, _⟩ => rfl

end

/-! ## The blocks fill the arrays -/

/-- A block of the first result is 1024 rows. -/
theorem block_rect5 : ∀ t : Fin grid0.N, win0_5.xsize (grid0.coords t) = ![1024, 1] := by decide +kernel
/-- A block of the log-slopes is 1024 columns. -/
theorem block_rect6 : ∀ t : Fin grid0.N, win0_6.xsize (grid0.coords t) = ![1, 1024] := by decide +kernel

/-- Each element of the first result lies in a block that is written. -/
theorem cover_z (i : S16384x1.Idx) : ∃ t : Fin cfg0.N, (cfg0.win 5).flush t = true ∧ i ∈ ((cfg0.win 5).blk t).view.set := by
  have h : (i 0).val < 16384 := (i 0).isLt
  have h1 : (i 1).val < 1 := (i 1).isLt
  obtain ⟨t, ht⟩ : ∃ t : Fin cfg0.N, t.val = (i 0).val / 1024 := ⟨⟨(i 0).val / 1024, by rw [show cfg0.N = 16 from N_0]; omega⟩, rfl⟩
  refine ⟨t, flush0_5 t, ?_⟩
  show i ∈ ((View.whole main_v0_0).slice (win0_5.rect t)).set
  rw [View.set_slice_whole, Rect.mem_set_unit]
  intro a
  show win0_5.index t a * S1024x1.size a ≤ (i a).val ∧ (i a).val < win0_5.index t a * S1024x1.size a + win0_5.xsize (grid0.coords t) a
  rw [block_rect5, idx5_eq]
  match a with
  | ⟨0, _⟩ => show t.val * 1024 ≤ (i 0).val ∧ (i 0).val < t.val * 1024 + 1024; omega
  | ⟨1, _⟩ => show 0 * 1 ≤ (i 1).val ∧ (i 1).val < 0 * 1 + 1; omega

/-- Each element of the log-slopes lies in a block that is written. -/
theorem cover_l (i : S1x16384.Idx) : ∃ t : Fin cfg0.N, (cfg0.win 6).flush t = true ∧ i ∈ ((cfg0.win 6).blk t).view.set := by
  have h : (i 1).val < 16384 := (i 1).isLt
  have h1 : (i 0).val < 1 := (i 0).isLt
  obtain ⟨t, ht⟩ : ∃ t : Fin cfg0.N, t.val = (i 1).val / 1024 := ⟨⟨(i 1).val / 1024, by rw [show cfg0.N = 16 from N_0]; omega⟩, rfl⟩
  refine ⟨t, flush0_6 t, ?_⟩
  show i ∈ ((View.whole main_call0_v6_1).slice (win0_6.rect t)).set
  rw [View.set_slice_whole, Rect.mem_set_unit]
  intro a
  show win0_6.index t a * S1x1024.size a ≤ (i a).val ∧ (i a).val < win0_6.index t a * S1x1024.size a + win0_6.xsize (grid0.coords t) a
  rw [block_rect6, idx6_eq]
  match a with
  | ⟨0, _⟩ => show 0 * 1 ≤ (i 0).val ∧ (i 0).val < 0 * 1 + 1; omega
  | ⟨1, _⟩ => show t.val * 1024 ≤ (i 1).val ∧ (i 1).val < t.val * 1024 + 1024; omega

/-! ## The arrays after the run -/

/-- The flattened row at an index. -/
theorem flat_apply (v : Vec Ideal S1x16384 .f32) (i : S16384.Idx) :
    (shapeCast S16384 v shapeCasts_S1x16384_S16384 : Vec Ideal S16384 .f32) i = v (ix2 0 (i 0)) := by
  pointwise []

section
variable (hy : m ((c : Thread nD τ).loc main_arg0) = fun i => ((y i : ℝ) : EReal))
variable (hx : m ((c : Thread nD τ).loc main_arg1) = fun i => ((x i : ℝ) : EReal))
variable (hw : m ((c : Thread nD τ).loc main_arg3) = fun i => ((w i : ℝ) : EReal))
variable (h0 : ∀ i, 0 ≤ y i)
include hy hx hw h0

/-- The first result array ends as the rows' heights. -/
theorem final_z : (dats m 0 c).arrAt 5 cfg0.N = zArr y x w :=
  (dats m 0 c).arrAt_eq_of_cover 5 (zArr y x w) (fun t _ => flushed_z m c y x w hy hx hw h0 t) cover_z

/-- The third result, the row of log-slopes flattened, ends as the rows' log-slopes. -/
theorem final_l : (shapeCast S16384 ((dats m 0 c).arrAt 6 cfg0.N : Vec Ideal S1x16384 .f32) shapeCasts_S1x16384_S16384 : Vec Ideal S16384 .f32)
    = fun i => logSlopeAt y x w (i 0) := by
  rw [(dats m 0 c).arrAt_eq_of_cover 6 (lArr y x w) (fun t _ => flushed_l m c y x w hy hx hw h0 t) cover_l]
  funext i
  exact flat_apply _ i

end

end Cert.KernelIdeal.Hand
-- ==== Proof.RefOps.lean ====
/-
  Four operations of the reference read at an index: the running sum along a row, the row's maximum, the choice of one column per
  row, and the look-up of a number in a list.
-/
module

public import proofs.«01_k».proof.Proof.Gen.ReferenceIdeal.Read
public import proofs.«01_k».proof.Proof.Rows
public import Idealize.ShloMosaic.Lib.StableHlo.Predicate

@[expose] public section

noncomputable section

namespace Cert.ReferenceIdeal.Hand

open Cert.ReferenceIdeal Cert.ReferenceIdeal.Gen Cert.Consts Cert.Spline
open Idealize.ShloMosaic

/-! ## The running sum -/

/-- Adding up a list from the left is its sum. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window has 1024 places. -/
theorem window_numel : (⟨2, ![1, 1024]⟩ : Shape).numel = 1024 := by
  show ∏ a : Fin 2, (![1, 1024] : Fin 2 → Nat) a = 1024
  rw [Fin.prod_univ_two]; rfl

/-- All places of a window are in one row. -/
theorem window_row (n : Fin (⟨2, ![1, 1024]⟩ : Shape).numel) : ((⟨2, ![1, 1024]⟩ : Shape).rowMajor.symm n 0).val = 0 := by
  have h0 : ((⟨2, ![1, 1024]⟩ : Shape).rowMajor.symm n 0).val < 1 := ((⟨2, ![1, 1024]⟩ : Shape).rowMajor.symm n 0).isLt
  omega
/-- The place of number `n` is in column `n`. -/
theorem window_col (n : Fin (⟨2, ![1, 1024]⟩ : Shape).numel) : ((⟨2, ![1, 1024]⟩ : Shape).rowMajor.symm n 1).val = n.val := by
  have e := Shape.rowMajor_val_two ((⟨2, ![1, 1024]⟩ : Shape).rowMajor.symm n)
  rw [Equiv.apply_symm_apply, window_row, Nat.zero_mul, Nat.zero_add] at e
  exact e.symm

/-- A window of 1024 that ends at `j`, with nothing before the row, sums the row up to `j`. -/
theorem window_sum (p : Fin 1024 → ℝ) (j : Fin 1024) :
    (∑ n : Fin 1024, if h : 1023 ≤ j.val + n.val then p ⟨j.val + n.val - 1023, by omega⟩ else 0) = upTo p j.val := by
  unfold upTo
  rw [← Finset.sum_filter]
  have : (∑ n : Fin 1024, if h : 1023 ≤ j.val + n.val then p ⟨j.val + n.val - 1023, by omega⟩ else 0)
      = ∑ n ∈ Finset.univ.filter (fun n : Fin 1024 => 1023 ≤ j.val + n.val), p ⟨j.val + n.val - 1023, by omega⟩ := by
    rw [Finset.sum_filter]
    exact Finset.sum_congr rfl fun n _ => by split <;> rfl
  rw [this]
  refine Finset.sum_bij' (fun n _ => ⟨j.val + n.val - 1023, by omega⟩)
    (fun i hi => ⟨i.val + 1023 - j.val, by simp at hi; omega⟩) ?_ ?_ ?_ ?_ ?_
  · intro n hn; rw [Finset.mem_filter] at hn ⊢; refine ⟨Finset.mem_univ _, ?_⟩; show j.val + n.val - 1023 ≤ j.val; omega
  · intro i hi; rw [Finset.mem_filter] at hi ⊢; refine ⟨Finset.mem_univ _, ?_⟩; show 1023 ≤ j.val + (i.val + 1023 - j.val); omega
  · intro n hn; simp at hn; apply Fin.ext; simp; omega
  · intro i hi; simp at hi; apply Fin.ext; simp; omega
  · intro n hn; rfl

/-- The windowed sum along a row of reals is its running sum. -/
theorem cumsum_apply (x : FVec Ideal S16384x1024 .f32) (r : Fin 16384) (p : Fin 1024 → ℝ) (hx : ∀ j, x (ix2 r j) = (p j : EReal))
    (init : FVec Ideal S_ .f32) (hi : ∀ i, init i = 0) (j : Fin 1024) :
    Host.reduceWindowAdd ![1, 1024] ![1, 1] ![0, 1023] ![0, 0] x init reduceWindows_S16384x1024_S16384x1024_w1s1p0_0_w1024s1p1023_0 h_S_ (ix2 r j)
      = (upTo p j.val : EReal) := by
  show Ideal.hostReduceWindowAdd ![1, 1024] ![1, 1] ![0, 1023] ![0, 0] reduceWindows_S16384x1024_S16384x1024_w1s1p0_0_w1024s1p1023_0 x (init _) (ix2 r j) = _
  rw [hi]
  unfold Ideal.hostReduceWindowAdd Host.reduceWindow
  dsimp only
  refine (foldl_add _ _ _).trans ?_
  rw [zero_add, ← Fin.sum_univ_def, ← window_sum, ← sum_real]
  refine Fintype.sum_equiv (finCongr window_numel) _ _ fun n => ?_
  have hn : n.val < 1024 := n.isLt.trans_eq window_numel
  have hc := window_col n
  have hr := window_row n
  by_cases h : 1023 ≤ j.val + n.val
  · have e : ∀ a : Fin 2, (![0, 1023] : Fin 2 → ℕ) a ≤ (ix2 r j a).val * (![1, 1] : Fin 2 → ℕ) a + ((⟨2, ![1, 1024]⟩ : Shape).rowMajor.symm n a).val
        ∧ (ix2 r j a).val * (![1, 1] : Fin 2 → ℕ) a + ((⟨2, ![1, 1024]⟩ : Shape).rowMajor.symm n a).val - (![0, 1023] : Fin 2 → ℕ) a < S16384x1024.size a := by
      intro a
      match a with
      | ⟨0, _⟩ => show 0 ≤ r.val * 1 + ((⟨2, ![1, 1024]⟩ : Shape).rowMajor.symm n 0).val ∧ r.val * 1 + ((⟨2, ![1, 1024]⟩ : Shape).rowMajor.symm n 0).val - 0 < 16384; omega
      | ⟨1, _⟩ => show 1023 ≤ j.val * 1 + ((⟨2, ![1, 1024]⟩ : Shape).rowMajor.symm n 1).val ∧ j.val * 1 + ((⟨2, ![1, 1024]⟩ : Shape).rowMajor.symm n 1).val - 1023 < 1024; omega
    refine (dif_pos e).trans ?_
    rw [dif_pos (show 1023 ≤ j.val + ((finCongr window_numel) n).val from h), ← hx]
    refine congrArg x (funext fun a => Fin.ext ?_)
    match a with
    | ⟨0, _⟩ => show r.val * 1 + ((⟨2, ![1, 1024]⟩ : Shape).rowMajor.symm n 0).val - 0 = r.val; omega
    | ⟨1, _⟩ => show j.val * 1 + ((⟨2, ![1, 1024]⟩ : Shape).rowMajor.symm n 1).val - 1023 = j.val + n.val - 1023; omega
  · rw [dif_neg (show ¬ 1023 ≤ j.val + ((finCongr window_numel) n).val from h)]
    refine (dif_neg fun e => h ?_).trans EReal.coe_zero.symm
    have h1 : 1023 ≤ j.val * 1 + ((⟨2, ![1, 1024]⟩ : Shape).rowMajor.symm n 1).val := (e 1).1
    omega

/-! ## Choosing one column per row -/

/-- A gather with one place per row reads that column of the row. -/
theorem pick_apply (x : FVec Ideal S16384x1024 .f32) (idx : IVec S16384x1x1 32) (r : Fin 16384) (k : Fin 1024)
    (hk : idx (ix3 r 0 0) = BitVec.ofNat 32 k.val) :
    Host.gather gather_S16384x1024_S16384x1x1_S16384x1_n_1_0_0_1_2_11 x idx (ix2 r 0) = x (ix2 r k) := by
  unfold Host.gather
  refine congrArg x (funext fun a => Fin.ext ?_)
  match a with
  | ⟨0, _⟩ => show 0 + r.val + 0 = r.val; omega
  | ⟨1, _⟩ =>
    have e : gather_S16384x1024_S16384x1x1_S16384x1_n_1_0_0_1_2_11.siIdx (ix2 r 0) ⟨0, by decide⟩ = ix3 r 0 0 := by
      funext b
      match b with
      | ⟨0, _⟩ => rfl
      | ⟨1, _⟩ => rfl
      | ⟨2, _⟩ => rfl
    show min (idx (gather_S16384x1024_S16384x1x1_S16384x1_n_1_0_0_1_2_11.siIdx (ix2 r 0) ⟨0, by decide⟩)).toInt.toNat (1024 - 1) + 0 + 0 = k.val
    rw [e, hk, StableHlo.Predicate.toInt_ofNat_small _ (by omega)]
    omega

/-! ## Looking up a knot -/

/-- A gather from a list reads it at the place given. -/
theorem lookup_apply (x : FVec Ideal S1024 .f32) (idx : IVec S16384x1 32) (r : Fin 16384) (k : Fin 1024)
    (hk : idx (ix2 r 0) = BitVec.ofNat 32 k.val) :
    Host.gather gather_S1024_S16384x1_S16384_n_0_n_n_0_1_1 x idx (ix1 r) = x (ix1 k) := by
  unfold Host.gather
  refine congrArg x (funext fun a => Fin.ext ?_)
  match a with
  | ⟨0, _⟩ =>
    have e : gather_S1024_S16384x1_S16384_n_0_n_n_0_1_1.siIdx (ix1 r) ⟨0, by decide⟩ = ix2 r 0 := by
      funext b
      match b with
      | ⟨0, _⟩ => rfl
      | ⟨1, _⟩ => rfl
    show min (idx (gather_S1024_S16384x1_S16384_n_0_n_n_0_1_1.siIdx (ix1 r) ⟨0, by decide⟩)).toInt.toNat (1024 - 1) + 0 + 0 = k.val
    rw [e, hk, StableHlo.Predicate.toInt_ofNat_small _ (by omega)]
    omega

/-! ## The row's maximum -/

/-- The greatest of finitely many reals, starting from minus infinity, is real. -/
theorem fold_max_real (s : Fin 1024 → ℝ) : ∃ M : ℝ, (Finset.univ.fold max ⊥ fun k => (s k : EReal)) = (M : EReal) := by
  have e : (Finset.univ.fold max ⊥ fun k => (s k : EReal)) = Finset.univ.sup fun k => (s k : EReal) := rfl
  obtain ⟨k, -, hk⟩ := Finset.exists_mem_eq_sup Finset.univ ⟨(0 : Fin 1024), Finset.mem_univ _⟩ fun k => (s k : EReal)
  exact ⟨s k, by rw [e, hk]⟩

/-- A reduction by maximum is the row's maximum. -/
theorem rowMax_apply (x : FVec Ideal S16384x1024 .f32) (init : FVec Ideal S_ .f32) (hi : ∀ i, init i = ⊥) (r : Fin 16384) :
    Host.reduce FloatOps.maximumf x init reducesTo_S16384x1024_S16384_d1 h_S_ (ix1 r) = Finset.univ.fold max ⊥ fun k => x (ix2 r k) := by
  pointwise []
  simp only [hi]

end Cert.ReferenceIdeal.Hand
-- ==== Proof.ReferenceValue.lean ====
/-
  The reference up to the running sums of its softmax, row by row, for real arguments and a bias of zeros: the knots, the logits,
  the softmax, and its running sums.
-/
module

public import proofs.«01_k».proof.Proof.RefOps
public import Idealize.ShloMosaic.Lib.ReduceAll

@[expose] public section

noncomputable section

namespace Cert.ReferenceIdeal.Hand

open Cert.ReferenceIdeal Cert.ReferenceIdeal.Gen Cert.ReferenceIdeal.Read Cert.Consts Cert.Spline
open Idealize.ShloMosaic

variable (y : S16384x1.Idx → ℝ) (x : S16384x512.Idx → ℝ) (w : S512x1024.Idx → ℝ) (r : Fin 16384)

/-- The arguments. -/
abbrev aY : (⟨S16384x1, .f32⟩ : BufTy).Contents (Elt Ideal) := fun i => ((y i : ℝ) : EReal)
/-- The array `x`. -/
abbrev aX : (⟨S16384x512, .f32⟩ : BufTy).Contents (Elt Ideal) := fun i => ((x i : ℝ) : EReal)
/-- The matrix `W`. -/
abbrev aW : (⟨S512x1024, .f32⟩ : BufTy).Contents (Elt Ideal) := fun i => ((w i : ℝ) : EReal)
/-- The bias of zeros. -/
abbrev aB : (⟨S1024, .f32⟩ : BufTy).Contents (Elt Ideal) := fun _ => (0 : EReal)

/-! ## The knots -/

/-- The evenly spaced numbers, all but the last. -/
theorem spaced_apply (j : Fin 1023) : val_main_call0_v15 (F := Ideal) (ix1 j) = ((j.val / 1023 : ℝ) : EReal) := by
  pointwise [val_main_call0_v15, val_main_call0_v14, val_main_call0_v13, val_main_call0_v12, val_main_call0_v11, val_main_call0_v10,
    val_main_call0_v9, val_main_call0_v8, val_main_call0_v7, val_main_call0_v6, val_main_call0_v5, val_main_call0_v4, val_main_call0_v1,
    val_main_call0_v0, val_main_cst, val_main_cst_0, val_main_call0_cst_0, val_main_call0_cst_1]
  have e0 : (id (constant (F := Ideal) S_ .f32 0x00000000#32) : FVec Ideal S_ .f32) ix0 = ((0 : ℝ) : EReal) := lit_zero
  have e1 : (id (constant (F := Ideal) S_ .f32 0x3F800000#32) : FVec Ideal S_ .f32) ix0 = ((1 : ℝ) : EReal) := lit_one
  rw [word_real _ (by omega), lit_1023, div_real _ (by norm_num), e0, e1, EReal.coe_zero, EReal.coe_one, zero_mul, zero_add, one_mul]

/-- Knot `j` is `j / 1023`. -/
theorem knot_apply (j : Fin 1024) : val_main_v0 (F := Ideal) (ix1 j) = ((j.val / 1023 : ℝ) : EReal) := by
  pointwise [val_main_v0, val_main_call0_v16, val_main_call0_v1, val_main_cst_0]
  split
  · exact spaced_apply _
  · rw [show j.val = 1023 by omega]
    refine Eq.trans lit_one ?_
    norm_num

/-! ## The softmax of the logits and its running sum -/

/-- The logits. -/
theorem logit_apply (j : Fin 1024) : val_main_v4 (F := Ideal) (aX x) (aW w) aB (ix2 r j) = (logit (rowOf x r) (matOf w) j : EReal) := by
  pointwise [val_main_v4, val_main_v1, val_main_v3, val_main_v2]
  simp only [← EReal.coe_mul, sum_real, add_zero]
  rfl

/-- The row's maximum, by which the softmax shifts, is real. -/
theorem rowMax_real : ∃ M : ℝ, val_main_v7 (F := Ideal) (aX x) (aW w) aB (ix1 r) = (M : EReal) := by
  obtain ⟨M, hM⟩ := fold_max_real (logit (rowOf x r) (matOf w))
  refine ⟨M, ?_⟩
  have h5 : val_main_v5 (F := Ideal) (aX x) (aW w) aB (ix1 r) = (M : EReal) := by
    unfold val_main_v5
    refine (rowMax_apply (val_main_v4 (F := Ideal) (aX x) (aW w) aB) (val_main_cst_1 (F := Ideal)) (fun _ => lit_bot) r).trans ?_
    rw [← hM]
    exact congrArg (Finset.univ.fold max ⊥) (funext fun k => logit_apply x w r k)
  have h6 : val_main_v6 (F := Ideal) (ix1 r) = ⊥ := by rw [val_main_v6_apply]; exact lit_bot
  rw [val_main_v7_apply, h5, h6, Ideal.maximumf_def]
  exact max_eq_right bot_le

/-- The exponentials of the shifted logits. -/
theorem shifted_apply (M : ℝ) (hM : val_main_v7 (F := Ideal) (aX x) (aW w) aB (ix1 r) = (M : EReal)) (j : Fin 1024) :
    val_main_v11 (F := Ideal) (aX x) (aW w) aB (ix2 r j) = (Real.exp (logit (rowOf x r) (matOf w) j - M) : EReal) := by
  have e9 : idx_main_v9 (ix2 r j) = ix2 r 0 := by
    funext a
    match a with
    | ⟨0, _⟩ => rfl
    | ⟨1, _⟩ => rfl
  have e8 : idx_main_v8 (ix2 r 0) = ix1 r := by
    funext a
    match a with
    | ⟨0, _⟩ => rfl
  rw [val_main_v11_apply, val_main_v10_apply, logit_apply, val_main_v9_apply, e9, val_main_v8_apply, e8, hM]
  rw [Ideal.subf_def, ← EReal.coe_sub, Ideal.hostUnary_exp_def, Ideal.exp_coe]

/-- The softmax is the weights over their total: the shift cancels. -/
theorem prob_apply (j : Fin 1024) : val_main_v15 (F := Ideal) (aX x) (aW w) aB (ix2 r j)
    = ((weight (rowOf x r) (matOf w) j / total (weight (rowOf x r) (matOf w)) : ℝ) : EReal) := by
  obtain ⟨M, hM⟩ := rowMax_real x w r
  have e14 : idx_main_v14 (ix2 r j) = ix2 r 0 := by
    funext a
    match a with
    | ⟨0, _⟩ => rfl
    | ⟨1, _⟩ => rfl
  have e13 : idx_main_v13 (ix2 r 0) = ix1 r := by
    funext a
    match a with
    | ⟨0, _⟩ => rfl
  have e12 : ∀ k, idx_main_v12 (ix1 r) k = ix2 r k := fun k => by
    funext a
    match a with
    | ⟨0, _⟩ => rfl
    | ⟨1, _⟩ => rfl
  have hs : (∑ k, Real.exp (logit (rowOf x r) (matOf w) k - M)) ≠ 0 :=
    (Finset.sum_pos (fun k _ => Real.exp_pos _) ⟨(0 : Fin 1024), Finset.mem_univ _⟩).ne'
  rw [val_main_v15_apply, val_main_v14_apply, e14, val_main_v13_apply, e13, val_main_v12_apply]
  simp only [e12, shifted_apply x w r M hM, sum_real]
  have e0 : val_main_cst_3 (F := Ideal) (Shape.Idx.first h_S_) = ((0 : ℝ) : EReal) := lit_zero
  rw [e0, EReal.coe_zero, zero_add, Ideal.hostDivf_def, div_real _ hs, softmax_shift]
  rfl

/-- The running sums of the weights over their total. -/
theorem share_apply (j : Fin 1024) : val_main_v16 (F := Ideal) (aX x) (aW w) aB (ix2 r j)
    = ((upTo (weight (rowOf x r) (matOf w)) j.val / total (weight (rowOf x r) (matOf w)) : ℝ) : EReal) := by
  unfold val_main_v16
  rw [cumsum_apply _ r _ (prob_apply x w r) _ (fun i => ?_) j, upTo_div]
  rw [val_main_call1_call0_v0_apply]
  exact lit_zero.trans EReal.coe_zero

end Cert.ReferenceIdeal.Hand
-- ==== Proof.ReferencePiece.lean ====
/-
  The reference's search: the number of knots at or below `y`, less one, is the number of the piece that holds `y`. The reference
  then makes each place it looks up non-negative and checks that it lies in range; on `[0, 1)` both leave it as it is.
-/
module

public import proofs.«01_k».proof.Proof.ReferenceValue

@[expose] public section

noncomputable section

namespace Cert.ReferenceIdeal.Hand

open Cert.ReferenceIdeal Cert.ReferenceIdeal.Gen Cert.ReferenceIdeal.Read Cert.Consts Cert.Spline
open Idealize.ShloMosaic

/-! ## Words -/

/-- A small word isn't negative, so it's kept. -/
theorem keep_word (n : ℕ) (hn : n < 2 ^ 31) (b : BitVec 32) :
    Scalar.select (IntOp.cmpi .slt (BitVec.ofNat 32 n) 0#32) b (BitVec.ofNat 32 n) = BitVec.ofNat 32 n := by
  have h : IntOp.cmpi .slt (BitVec.ofNat 32 n) 0#32 ≠ 1#1 := fun h => by
    have := (StableHlo.Predicate.slt_iff_toNat (by rw [BitVec.toNat_ofNat]; omega) (by decide)).mp h
    simp at this
  exact if_neg h

/-- A word of at most 1023 passes the range check. -/
theorem range_word (n : ℕ) (hn : n ≤ 1023) :
    IntOp.andi (IntOp.cmpi .sge (BitVec.ofNat 32 n) 0#32) (IntOp.cmpi .sle (BitVec.ofNat 32 n) 1023#32) = 1#1 := by
  have e : (BitVec.ofNat 32 n).toNat = n := by rw [BitVec.toNat_ofNat]; omega
  have h1 : IntOp.cmpi .sge (BitVec.ofNat 32 n) 0#32 = 1#1 :=
    (StableHlo.Predicate.sge_iff_toNat (by omega) (by decide)).mpr (Nat.zero_le _)
  have h2 : IntOp.cmpi .sle (BitVec.ofNat 32 n) 1023#32 = 1#1 :=
    (StableHlo.Predicate.sle_iff_toNat (by omega) (by decide)).mpr (by rw [e]; exact hn)
  rw [h1, h2]
  rfl

/-- One more, in words. -/
theorem succ_word (n : ℕ) : IntOp.addi (BitVec.ofNat 32 n) 1#32 = BitVec.ofNat 32 (n + 1) :=
  (BitVec.ofNat_add n 1).symm

/-- One less, in words. -/
theorem pred_word (n : ℕ) (hn : n + 1 < 2 ^ 32) : IntOp.subi (BitVec.ofNat 32 (n + 1)) 1#32 = BitVec.ofNat 32 n :=
  (StableHlo.Predicate.sub_one_ofNat (n + 1) (by omega) hn).trans (by rw [Nat.add_sub_cancel])

/-! ## Counting -/

variable (y : S16384x1.Idx → ℝ) (h0 : ∀ i, 0 ≤ y i) (h1 : ∀ i, y i < 1) (r : Fin 16384)

include h0 in
/-- The comparison of `y` and knot `j` holds exactly up to the piece's number. -/
theorem mask_apply (j : Fin 1024) : val_main_v20 (F := Ideal) (aY y) (ix2 r j) = 1#1 ↔ j.val ≤ piece (y (ix2 r 0)) := by
  have e18 : idx_main_v18 (ix2 r j) = ix2 r 0 := by
    funext a
    match a with
    | ⟨0, _⟩ => rfl
    | ⟨1, _⟩ => rfl
  have e19 : idx_main_v19 (ix2 r j) = ix2 0 j := by
    funext a
    match a with
    | ⟨0, _⟩ => rfl
    | ⟨1, _⟩ => rfl
  have e17 : idx_main_v17 (ix2 0 j) = ix1 j := by
    funext a
    match a with
    | ⟨0, _⟩ => rfl
  rw [val_main_v20_apply, val_main_v18_apply, e18, val_main_v19_apply, e19, val_main_v17_apply, e17, knot_apply]
  have e : FloatOps.cmpf (F := Ideal) (φ := .f32) .oge (aY y (ix2 r 0)) (((j.val : ℝ) / 1023 : ℝ) : EReal) = BitVec.ofBool (decide ((j.val : ℝ) / 1023 ≤ y (ix2 r 0))) :=
    cmp_oge _ _
  rw [e, ← knot_le_iff (h0 (ix2 r 0))]
  by_cases h : (j.val : ℝ) / 1023 ≤ y (ix2 r 0) <;> simp [h]

include h0 h1 in
/-- The count of knots at or below `y` is one more than the number of the piece. -/
theorem count_apply : val_main_v22 (F := Ideal) (aY y) (ix1 r) = BitVec.ofNat 32 (piece (y (ix2 r 0)) + 1) := by
  have hp := piece_lt (h1 (ix2 r 0))
  apply BitVec.eq_of_toNat_eq
  have e : (val_main_v22 (F := Ideal) (aY y) (ix1 r)).toNat
      = (Finset.univ.filter fun q : Fin 1024 => val_main_v20 (F := Ideal) (aY y) (StableHlo.Predicate.ij r q) = 1#1).card :=
    StableHlo.Predicate.toNat_reduce_count_cols (by norm_num) (val_main_v20 (F := Ideal) (aY y)) natLt_1_32
      reducesTo_S16384x1024_S16384_d1 h_S_ (ix1 r)
  rw [e, BitVec.toNat_ofNat, Nat.mod_eq_of_lt (by omega), ← card_knots (h1 (ix2 r 0))]
  refine congrArg Finset.card (Finset.filter_congr fun q _ => ?_)
  have ij : StableHlo.Predicate.ij r q = ix2 r q := by
    funext a
    match a with
    | ⟨0, _⟩ => rfl
    | ⟨1, _⟩ => rfl
  rw [ij]
  exact mask_apply y h0 r q

include h0 h1 in
/-- The search gives the number of the piece. -/
theorem piece_apply : val_main_v24 (F := Ideal) (aY y) (ix1 r) = BitVec.ofNat 32 (piece (y (ix2 r 0))) := by
  have hp := piece_lt (h1 (ix2 r 0))
  rw [val_main_v24_apply, count_apply y h0 h1 r, val_main_v23_apply, val_main_c_4_apply]
  exact pred_word _ (by omega)

/-- Index `(r, 0)` of the column is row `r`. -/
theorem col_idx30 : idx_main_v30 (ix2 r 0) = ix1 r := by
  funext a
  match a with
  | ⟨0, _⟩ => rfl
/-- Index `(r, 0)` of the column is row `r`. -/
theorem col_idx40 : idx_main_v40 (ix2 r 0) = ix1 r := by
  funext a
  match a with
  | ⟨0, _⟩ => rfl
/-- Index `(r, 0)` of the column is row `r`. -/
theorem col_idx32 : idx_main_v32 (ix2 r 0) = ix1 r := by
  funext a
  match a with
  | ⟨0, _⟩ => rfl
/-- Index `(r, 0)` of the column is row `r`. -/
theorem col_idx42 : idx_main_v42 (ix2 r 0) = ix1 r := by
  funext a
  match a with
  | ⟨0, _⟩ => rfl
/-- Index `(r, 0)` of the column is row `r`. -/
theorem col_idx43 : idx_main_v43 (ix2 r 0) = ix1 r := by
  funext a
  match a with
  | ⟨0, _⟩ => rfl
/-- Index `(r, 0)` of the column is row `r`. -/
theorem col_idx47 : idx_main_v47 (ix2 r 0) = ix1 r := by
  funext a
  match a with
  | ⟨0, _⟩ => rfl

/-! ## The knots around `y` -/

include h0 h1 in
/-- The knot looked up first is the one at or below `y`. -/
theorem below_apply : val_main_v32 (F := Ideal) (aY y) (ix2 r 0) = (((piece (y (ix2 r 0)) : ℝ) / 1023 : ℝ) : EReal) := by
  have hp := piece_lt (h1 (ix2 r 0))
  have e : val_main_v30 (F := Ideal) (aY y) (ix2 r 0) = BitVec.ofNat 32 (piece (y (ix2 r 0))) := by
    rw [val_main_v30_apply, col_idx30, val_main_v29_apply, val_main_v26_apply, piece_apply y h0 h1 r, val_main_v25_apply, val_main_c_5_apply]
    exact keep_word _ (by omega) _
  rw [val_main_v32_apply, col_idx32]
  unfold val_main_v31
  rw [lookup_apply _ _ r ⟨piece (y (ix2 r 0)), by omega⟩ e, knot_apply]

include h0 h1 in
/-- The knot looked up next is the one above `y`. -/
theorem above_apply : val_main_v42 (F := Ideal) (aY y) (ix2 r 0) = ((((piece (y (ix2 r 0)) + 1 : ℕ) : ℝ) / 1023 : ℝ) : EReal) := by
  have hp := piece_lt (h1 (ix2 r 0))
  have e : val_main_v40 (F := Ideal) (aY y) (ix2 r 0) = BitVec.ofNat 32 (piece (y (ix2 r 0)) + 1) := by
    rw [val_main_v40_apply, col_idx40, val_main_v39_apply, val_main_v36_apply, val_main_v34_apply, piece_apply y h0 h1 r, val_main_v33_apply,
      val_main_c_7_apply, succ_word, val_main_v35_apply, val_main_c_8_apply]
    exact keep_word _ (by omega) _
  rw [val_main_v42_apply, col_idx42]
  unfold val_main_v41
  rw [lookup_apply _ _ r ⟨piece (y (ix2 r 0)) + 1, by omega⟩ e, knot_apply]

/-! ## The running sums at the knots -/

/-- An index of the look-up's places names a row. -/
theorem idx_row (i : S16384x1x1.Idx) : ∃ r : Fin 16384, i = ix3 r 0 0 := ⟨i 0, by
  have i1 : (i 1).val < 1 := (i 1).isLt
  have i2 : (i 2).val < 1 := (i 2).isLt
  funext a
  match a with
  | ⟨0, _⟩ => rfl
  | ⟨1, _⟩ => apply Fin.ext; show (i 1).val = 0; omega
  | ⟨2, _⟩ => apply Fin.ext; show (i 2).val = 0; omega⟩

/-- Index `(r, 0, 0)` of the first places is row `r`. -/
theorem flat_idx2 : idx_main_call2_v5 (ix3 r 0 0) = ix2 r 0 := by
  funext a
  match a with
  | ⟨0, _⟩ => apply Fin.ext; show ((r.val * 1 + 0) * 1 + 0) / 1 = r.val; omega
  | ⟨1, _⟩ => rfl

include h0 h1 in
/-- The place of the first running sum is the number of the piece. -/
theorem place2 : val_main_call2_v5 (F := Ideal) (aY y) (ix3 r 0 0) = BitVec.ofNat 32 (piece (y (ix2 r 0))) := by
  have hp := piece_lt (h1 (ix2 r 0))
  have e : val_main_v43 (F := Ideal) (aY y) (ix2 r 0) = BitVec.ofNat 32 (piece (y (ix2 r 0))) := by
    rw [val_main_v43_apply, col_idx43, piece_apply y h0 h1]
  rw [val_main_call2_v5_apply, flat_idx2, val_main_call2_v4_apply, val_main_call2_v1_apply, e, val_main_call2_v0_apply, val_main_call2_c_apply]
  exact keep_word _ (by omega) _

include h0 h1 in
/-- The first place passes the range check. -/
theorem inRange2 (i : S16384x1.Idx) : val_main_call2_v12 (F := Ideal) (aY y) i = 1#1 := by
  unfold val_main_call2_v12
  refine Host.reduce_andi_one _ _ _ _ _ (val_main_call2_c_3_apply _) fun k => ?_
  obtain ⟨r, rfl⟩ := idx_row k
  have hp := piece_lt (h1 (ix2 r 0))
  rw [val_main_call2_v11_apply, val_main_call2_v7_apply, val_main_call2_v10_apply, place2 y h0 h1, val_main_call2_v6_apply,
    val_main_call2_c_2_apply, val_main_call2_v9_apply, val_main_call2_v8_apply, val_main_call2_c_1_apply]
  exact range_word _ (by omega)

/-- Index `(r, 0, 0)` of the second places is row `r`. -/
theorem flat_idx3 : idx_main_call3_v5 (ix3 r 0 0) = ix2 r 0 := by
  funext a
  match a with
  | ⟨0, _⟩ => apply Fin.ext; show ((r.val * 1 + 0) * 1 + 0) / 1 = r.val; omega
  | ⟨1, _⟩ => rfl

include h0 h1 in
/-- The place of the second running sum is one more. -/
theorem place3 : val_main_call3_v5 (F := Ideal) (aY y) (ix3 r 0 0) = BitVec.ofNat 32 (piece (y (ix2 r 0)) + 1) := by
  have hp := piece_lt (h1 (ix2 r 0))
  have e : val_main_v47 (F := Ideal) (aY y) (ix2 r 0) = BitVec.ofNat 32 (piece (y (ix2 r 0)) + 1) := by
    rw [val_main_v47_apply, col_idx47, val_main_v46_apply, piece_apply y h0 h1, val_main_v45_apply, val_main_c_10_apply, succ_word]
  rw [val_main_call3_v5_apply, flat_idx3, val_main_call3_v4_apply, val_main_call3_v1_apply, e, val_main_call3_v0_apply, val_main_call3_c_apply]
  exact keep_word _ (by omega) _

include h0 h1 in
/-- The second place passes the range check. -/
theorem inRange3 (i : S16384x1.Idx) : val_main_call3_v12 (F := Ideal) (aY y) i = 1#1 := by
  unfold val_main_call3_v12
  refine Host.reduce_andi_one _ _ _ _ _ (val_main_call3_c_3_apply _) fun k => ?_
  obtain ⟨r, rfl⟩ := idx_row k
  have hp := piece_lt (h1 (ix2 r 0))
  rw [val_main_call3_v11_apply, val_main_call3_v7_apply, val_main_call3_v10_apply, place3 y h0 h1, val_main_call3_v6_apply,
    val_main_call3_c_2_apply, val_main_call3_v9_apply, val_main_call3_v8_apply, val_main_call3_c_1_apply]
  exact range_word _ (by omega)

variable (x : S16384x512.Idx → ℝ) (w : S512x1024.Idx → ℝ)

include h0 h1 in
/-- The running share at the knot below `y`. -/
theorem shareBelow_apply : val_main_v44 (F := Ideal) (aY y) (aX x) (aW w) aB (ix2 r 0)
    = ((upTo (weight (rowOf x r) (matOf w)) (piece (y (ix2 r 0))) / total (weight (rowOf x r) (matOf w)) : ℝ) : EReal) := by
  have hp := piece_lt (h1 (ix2 r 0))
  rw [val_main_v44_apply, inRange2 y h0 h1]
  refine (if_pos rfl).trans ?_
  unfold val_main_call2_v13
  rw [pick_apply _ _ r ⟨piece (y (ix2 r 0)), by omega⟩ (place2 y h0 h1 r), share_apply]

include h0 h1 in
/-- The running share at the knot above `y`. -/
theorem shareAbove_apply : val_main_v48 (F := Ideal) (aY y) (aX x) (aW w) aB (ix2 r 0)
    = ((upTo (weight (rowOf x r) (matOf w)) (piece (y (ix2 r 0)) + 1) / total (weight (rowOf x r) (matOf w)) : ℝ) : EReal) := by
  have hp := piece_lt (h1 (ix2 r 0))
  rw [val_main_v48_apply, inRange3 y h0 h1]
  refine (if_pos rfl).trans ?_
  unfold val_main_call3_v13
  rw [pick_apply _ _ r ⟨piece (y (ix2 r 0)) + 1, by omega⟩ (place3 y h0 h1 r), share_apply]

/-! ## The two results -/

include h0 h1 in
/-- The reference's slope is the row's. -/
theorem slope_apply : val_main_v51 (F := Ideal) (aY y) (aX x) (aW w) aB (ix2 r 0)
    = (slope (weight (rowOf x r) (matOf w)) (y (ix2 r 0)) : EReal) := by
  have hd : (((piece (y (ix2 r 0)) + 1 : ℕ) : ℝ) / 1023 - (piece (y (ix2 r 0)) : ℝ) / 1023) ≠ 0 := by
    have : ((piece (y (ix2 r 0)) + 1 : ℕ) : ℝ) / 1023 - (piece (y (ix2 r 0)) : ℝ) / 1023 = 1 / 1023 := by push_cast; ring
    rw [this]; norm_num
  rw [val_main_v51_apply, val_main_v49_apply, val_main_v50_apply, shareAbove_apply y h0 h1, shareBelow_apply y h0 h1, above_apply y h0 h1,
    below_apply y h0 h1, Ideal.subf_def, Ideal.subf_def, Ideal.hostDivf_def, ← EReal.coe_sub, ← EReal.coe_sub, div_real _ hd,
    slope_eq _ (weight_pos _ _)]

include h0 h1 in
/-- The reference's first result. -/
theorem ref_z : val_main_v58 (F := Ideal) (aY y) (aX x) (aW w) aB = fun i => heightAt y x w (i 0) := by
  funext i
  obtain ⟨r, rfl⟩ : ∃ r : Fin 16384, i = ix2 r 0 := ⟨i 0, by
    funext a
    match a with
    | ⟨0, _⟩ => rfl
    | ⟨1, _⟩ => apply Fin.ext; show (i 1).val = 0; have h : (i 1).val < 1 := (i 1).isLt; omega⟩
  have e55 : val_main_v55 (F := Ideal) (ix2 r 0) = 1 := by
    rw [val_main_v55_apply]; exact lit_one.trans EReal.coe_one
  have e57 : val_main_v57 (F := Ideal) (ix2 r 0) = 0 := by
    rw [val_main_v57_apply]; exact lit_zero.trans EReal.coe_zero
  rw [val_main_v58_apply, val_main_v56_apply, e55, e57, val_main_v54_apply, val_main_v53_apply, val_main_v52_apply,
    shareBelow_apply y h0 h1, slope_apply y h0 h1, below_apply y h0 h1, Ideal.addf_def, Ideal.addf_def, Ideal.mulf_def, Ideal.mulf_def, Ideal.subf_def,
    one_mul, add_zero]
  show _ = heightAt y x w r
  unfold heightAt
  rw [← height_eq, ← EReal.coe_sub, ← EReal.coe_mul, ← EReal.coe_add, mul_comm]

include h0 h1 in
/-- The reference's third result, for a `logdet` of zeros. -/
theorem ref_l : val_main_v65 (F := Ideal) (aY y) (aX x) (fun _ => 0) (aW w) aB = fun i => logSlopeAt y x w (i 0) := by
  funext i
  obtain ⟨r, rfl⟩ : ∃ r : Fin 16384, i = ix1 r := ⟨i 0, by
    funext a
    match a with
    | ⟨0, _⟩ => rfl⟩
  have e60 : idx_main_v60 (ix1 r) = ix2 r 0 := by
    funext a
    match a with
    | ⟨0, _⟩ => apply Fin.ext; show r.val / 1 = r.val; omega
    | ⟨1, _⟩ => rfl
  have e63 : val_main_v63 (F := Ideal) (ix1 r) = 0 := by
    rw [val_main_v63_apply, val_main_v59_apply, Ideal.hostUnary_log_def]
    have : val_main_cst_13 (F := Ideal) (idx_main_v63 (ix1 r)) = ((1 : ℝ) : EReal) := lit_one
    rw [this, Ideal.log_coe, if_neg (by norm_num), Real.log_one, EReal.coe_zero]
  rw [val_main_v65_apply, val_main_v64_apply, e63, val_main_v62_apply, val_main_v61_apply, val_main_v60_apply, e60, slope_apply y h0 h1,
    Ideal.addf_def, Ideal.addf_def, zero_add, zero_add]
  rfl

end Cert.ReferenceIdeal.Hand
-- ==== Proof.Domain.lean ====
/-
  What the precondition `domain` says of the arguments: `y`, `x` and `W` are arrays of real numbers, `y` lies in `[0, 1)`, and
  `logdet` and `b` are zero.
-/
module

public import proofs.«01_k».proof.Pre_domain
public import proofs.«01_k».proof.Proof.Consts

@[expose] public section

noncomputable section

namespace Cert.Domain

open Cert.Pre_domain Cert.Consts
open Idealize.ShloMosaic

variable [Cert.Pre_domain.Facts]
variable (y : FVec Ideal S16384x1 .f32) (x : FVec Ideal S16384x512 .f32) (l : FVec Ideal S16384 .f32)
  (w : FVec Ideal S512x1024 .f32) (b : FVec Ideal S1024 .f32)

/-- Both bits of a conjunction are set. -/
theorem both {p q : BitVec 1} (h : IntOp.andi p q = 1#1) : p = 1#1 ∧ q = 1#1 := by
  revert p q; decide

/-- The bit of a true proposition. -/
theorem of_bit {p : Prop} [Decidable p] (h : BitVec.ofBool (decide p) = 1#1) : p := by
  by_contra hn
  simp [hn] at h

/-- Below infinity in absolute value means real. -/
theorem real_of_abs {a : EReal} (h : Ideal.cmp .olt (max a (-a)) (Ideal.ofBits .f32 0x7F800000#32) = 1#1) : ((a.toReal : ℝ) : EReal) = a := by
  rw [lit_top] at h
  have h' : max a (-a) < ⊤ := of_bit h
  refine EReal.coe_toReal (fun e => ?_) (fun e => ?_)
  · rw [e] at h'; simp at h'
  · rw [e] at h'; simp at h'

/-- Equal to zero, by a comparison. -/
theorem zero_of_eq {a : EReal} (h : Ideal.cmp .oeq a (Ideal.ofBits .f32 0x00000000#32) = 1#1) : a = 0 := by
  rw [lit_zero] at h
  exact (of_bit h).trans EReal.coe_zero

/-- In `[0, 1)`, by two comparisons. -/
theorem unit_of {a : EReal} (h : IntOp.andi (Ideal.cmp .oge a (Ideal.ofBits .f32 0x00000000#32)) (Ideal.cmp .olt a (Ideal.ofBits .f32 0x3F800000#32)) = 1#1) :
    ((a.toReal : ℝ) : EReal) = a ∧ 0 ≤ a.toReal ∧ a.toReal < 1 := by
  obtain ⟨p, q⟩ := both h
  rw [lit_zero] at p
  rw [lit_one] at q
  have p' : (0 : EReal) ≤ a := EReal.coe_zero.symm.trans_le (of_bit p)
  have q' : a < ((1 : ℝ) : EReal) := of_bit q
  have e : ((a.toReal : ℝ) : EReal) = a :=
    EReal.coe_toReal (q'.trans (EReal.coe_lt_top 1)).ne ((EReal.bot_lt_zero.trans_le p').ne')
  refine ⟨e, ?_, ?_⟩
  · rw [← e] at p'; exact_mod_cast p'
  · rw [← e] at q'; exact_mod_cast q'

/-- `y` holds real numbers in `[0, 1)`. -/
theorem y_real (h : (fn y x l w b).1 = fun _ => 1#1) :
    ∃ f : S16384x1.Idx → ℝ, (y = fun i => ((f i : ℝ) : EReal)) ∧ (∀ i, 0 ≤ f i) ∧ ∀ i, f i < 1 := by
  have u := fun i => unit_of (a := y i) (congrFun h i)
  exact ⟨fun i => (y i).toReal, funext fun i => (u i).1.symm, fun i => (u i).2.1, fun i => (u i).2.2⟩

/-- `x` holds real numbers. -/
theorem x_real (h : (fn y x l w b).2.1 = fun _ => 1#1) : ∃ f : S16384x512.Idx → ℝ, x = fun i => ((f i : ℝ) : EReal) :=
  ⟨fun i => (x i).toReal, funext fun i => (real_of_abs (a := x i) (congrFun h i)).symm⟩

/-- `W` holds real numbers. -/
theorem w_real (h : (fn y x l w b).2.2.1 = fun _ => 1#1) : ∃ f : S512x1024.Idx → ℝ, w = fun i => ((f i : ℝ) : EReal) :=
  ⟨fun i => (w i).toReal, funext fun i => (real_of_abs (a := w i) (congrFun h i)).symm⟩

/-- `logdet` is zero. -/
theorem logdet_zero (h : (fn y x l w b).2.2.2.1 = fun _ => 1#1) : l = fun _ => (0 : EReal) :=
  funext fun i => zero_of_eq (a := l i) (congrFun h i)

/-- `b` is zero. -/
theorem bias_zero (h : (fn y x l w b).2.2.2.2 = fun _ => 1#1) : b = fun _ => (0 : EReal) :=
  funext fun i => zero_of_eq (a := b i) (congrFun h i)

end Cert.Domain
-- ==== Proof.Equation.lean ====
/-
  The algebraic equation: on the precondition's domain the idealized kernel and the reference end with the same three results,
  each row's height (Spline.height), the array `x`, and the log of each row's absolute slope (Spline.slope).
-/
module

public import proofs.«01_k».proof.Defs
public import proofs.«01_k».proof.Proof.KernelIdealArray
public import proofs.«01_k».proof.Proof.ReferencePiece
public import proofs.«01_k».proof.Proof.Domain
public import proofs.«01_k».proof.Proof.Gen.Pre_domain

@[expose] public section

noncomputable section

namespace Cert.Equation

open Idealize.ShloMosaic Idealize.SL.Sem Cert.Spline

/-- The real arrays that the arguments hold. -/
structure Args (m : (ℓ : Loc Cert.KernelIdeal.nD Cert.KernelIdeal.τ Cert.KernelIdeal.sig) → Buf (Elt Ideal) ℓ) (c : Dev Cert.KernelIdeal.nD) where
  y : Cert.KernelIdeal.S16384x1.Idx → ℝ
  x : Cert.KernelIdeal.S16384x512.Idx → ℝ
  w : Cert.KernelIdeal.S512x1024.Idx → ℝ
  hy : m ((c.tc : Thread Cert.KernelIdeal.nD Cert.KernelIdeal.τ).loc Cert.KernelIdeal.main_arg0) = fun i => ((y i : ℝ) : EReal)
  hx : m ((c.tc : Thread Cert.KernelIdeal.nD Cert.KernelIdeal.τ).loc Cert.KernelIdeal.main_arg1) = fun i => ((x i : ℝ) : EReal)
  hw : m ((c.tc : Thread Cert.KernelIdeal.nD Cert.KernelIdeal.τ).loc Cert.KernelIdeal.main_arg3) = fun i => ((w i : ℝ) : EReal)
  hl : m ((c.tc : Thread Cert.KernelIdeal.nD Cert.KernelIdeal.τ).loc Cert.KernelIdeal.main_arg2) = fun _ => (0 : EReal)
  hb : m ((c.tc : Thread Cert.KernelIdeal.nD Cert.KernelIdeal.τ).loc Cert.KernelIdeal.main_arg4) = fun _ => (0 : EReal)
  h0 : ∀ i, 0 ≤ y i
  h1 : ∀ i, y i < 1

/-- The precondition gives them. -/
theorem args (m : (ℓ : Loc Cert.KernelIdeal.nD Cert.KernelIdeal.τ Cert.KernelIdeal.sig) → Buf (Elt Ideal) ℓ)
    (h : Cert.Pre_KernelIdeal_domain m) (c : Dev Cert.KernelIdeal.nD) : Nonempty (Args m c) := by
  obtain ⟨hy, hx, hw, hl, hb⟩ := h c
  obtain ⟨y, ey, h0, h1⟩ := Cert.Domain.y_real _ _ _ _ _ hy
  obtain ⟨x, ex⟩ := Cert.Domain.x_real _ _ _ _ _ hx
  obtain ⟨w, ew⟩ := Cert.Domain.w_real _ _ _ _ _ hw
  exact ⟨⟨y, x, w, ey, ex, ew, Cert.Domain.logdet_zero _ _ _ _ _ hl, Cert.Domain.bias_zero _ _ _ _ _ hb, h0, h1⟩⟩

/-- The equation of the two programs' results. -/
theorem algebraic : Cert.algebraic_KernelIdeal_ReferenceIdeal_pre_domain := by
  intro m g m' g' hpre heq
  have A := fun c => (args m hpre c).some
  refine ⟨fun c => fun i => heightAt (A c).y (A c).x (A c).w (i 0),
    fun c => m ((c.tc : Thread Cert.KernelIdeal.nD Cert.KernelIdeal.τ).loc Cert.KernelIdeal.main_arg1),
    fun c => fun i => logSlopeAt (A c).y (A c).x (A c).w (i 0), ?_, ?_⟩
  · refine (θ_run Cert.KernelIdeal.defs _ _).mono (fun r h c => ?_) (Cert.KernelIdeal.Hand.run (F := Ideal) m g)
    obtain ⟨hz, ho, hl, hargs⟩ := h.1 c
    exact ⟨hz.trans (Cert.KernelIdeal.Hand.final_z m c _ _ _ (A c).hy (A c).hx (A c).hw (A c).h0), ho,
      hl.trans (Cert.KernelIdeal.Hand.final_l m c _ _ _ (A c).hy (A c).hx (A c).hw (A c).h0), hargs⟩
  · refine (θ_run Cert.ReferenceIdeal.defs _ _).mono (fun r h c => ?_) (Cert.ReferenceIdeal.Value.run (F := Ideal) m' g')
    obtain ⟨e0, e1, e2, e3, e4⟩ := heq c
    obtain ⟨hz, ho, hl, hargs⟩ := h c
    refine ⟨hz.trans ?_, ho.trans e1, hl.trans ?_, hargs⟩
    · rw [Cert.ReferenceIdeal.Read.val_main_v58_eq, e0, e1, e3, e4, (A c).hy, (A c).hx, (A c).hw, (A c).hb]
      exact Cert.ReferenceIdeal.Hand.ref_z (A c).y (A c).h0 (A c).h1 (A c).x (A c).w
    · rw [Cert.ReferenceIdeal.Read.val_main_v65_eq, e0, e1, e2, e3, e4, (A c).hy, (A c).hx, (A c).hw, (A c).hl, (A c).hb]
      exact Cert.ReferenceIdeal.Hand.ref_l (A c).y (A c).h0 (A c).h1 (A c).x (A c).w

end Cert.Equation
-- ==== Proof.lean ====
/-
  The claims about the interpolation kernel, assembled: the frames from the two runs (Proof/KernelRun.lean for the printed
  program, Proof/KernelIdealRun.lean for the idealized one) and from the reference's generated run, `preserves` from the one
  named constant, and the algebraic equation from Proof/Equation.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_domain
public import proofs.«01_k».proof.Proof.KernelRun
public import proofs.«01_k».proof.Proof.KernelIdealRun
public import proofs.«01_k».proof.Proof.Equation
public import Idealize.ShloMosaic.Adequacy
public import Idealize.ShloMosaic.Init

@[expose] public section

noncomputable section

namespace Cert.Proof

open Idealize.ShloMosaic Idealize.SL.Sem

/-- The printed kernel runs, leaves its arguments unchanged and every semaphore counter at zero. -/
theorem frame_p : Cert.quiescent_Kernel := fun m ρ _ =>
  (θ_run Cert.Kernel.defs _ _).mono (fun _ h => ⟨fun c => (h.1 c).2.2.2, h.2⟩) (Cert.Kernel.Hand.run (F := Bits) m ρ)

/-- So does the idealized kernel. -/
theorem frame_pi : Cert.quiescent_KernelIdeal := fun m ρ _ =>
  (θ_run Cert.KernelIdeal.defs _ _).mono (fun _ h => ⟨fun c => (h.1 c).2.2.2, h.2⟩) (Cert.KernelIdeal.Hand.run (F := Ideal) m ρ)

/-- So does the reference. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The one named constant has the value the certificate gives it. -/
theorem preserves : Cert.preserves_Kernel_KernelIdeal :=
  IdealRules.named_const.statement Cert.KernelIdeal.κ "h" .f32 0x3A802008#32 ((1 / 1023 : ℝ) : EReal) rfl

theorem claim : Cert.Claim := ⟨Cert.Kernel.Gen.facts, Cert.KernelIdeal.Gen.facts, Cert.ReferenceIdeal.Gen.facts, Cert.Pre_domain.Gen.facts,
  frame_p, frame_pi, fun m ρ _ => frame_pi m ρ trivial, frame_ri, fun m ρ _ => frame_ri m ρ trivial, preserves, Cert.Equation.algebraic⟩

end Cert.Proof

end
